-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S1 : Shape := ⟨1, ![1]⟩
abbrev S4096x512 : Shape := ⟨2, ![4096, 512]⟩
abbrev S2x4096x256 : Shape := ⟨3, ![2, 4096, 256]⟩
abbrev S3x2x1024x256 : Shape := ⟨4, ![3, 2, 1024, 256]⟩
abbrev S3x2x1024 : Shape := ⟨3, ![3, 2, 1024]⟩
abbrev S4x2x1024x256 : Shape := ⟨4, ![4, 2, 1024, 256]⟩
abbrev S4x2x1024 : Shape := ⟨3, ![4, 2, 1024]⟩
abbrev S3x1024x512 : Shape := ⟨3, ![3, 1024, 512]⟩
abbrev S_ : Shape := ⟨0, ![]⟩
abbrev S2 : Shape := ⟨1, ![2]⟩
abbrev S3 : Shape := ⟨1, ![3]⟩
abbrev S3x2 : Shape := ⟨2, ![3, 2]⟩
abbrev S4x2 : Shape := ⟨2, ![4, 2]⟩
abbrev S1x4096x256 : Shape := ⟨3, ![1, 4096, 256]⟩
abbrev S4096x256 : Shape := ⟨2, ![4096, 256]⟩
abbrev S1024x256 : Shape := ⟨2, ![1024, 256]⟩
abbrev S1024 : Shape := ⟨1, ![1024]⟩
abbrev S1024x1 : Shape := ⟨2, ![1024, 1]⟩
abbrev S1x1x1024x256 : Shape := ⟨4, ![1, 1, 1024, 256]⟩
abbrev S1x1x1024 : Shape := ⟨3, ![1, 1, 1024]⟩
abbrev S1x1 : Shape := ⟨2, ![1, 1]⟩
abbrev S1x1024x256 : Shape := ⟨3, ![1, 1024, 256]⟩
abbrev S1024x512 : Shape := ⟨2, ![1024, 512]⟩
abbrev S1x1024x512 : Shape := ⟨3, ![1, 1024, 512]⟩

abbrev nBuf : Space → Nat
  | .hbm => 5
  | .vmem => 7
  | .smem => 2
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S1024x4096, .f32⟩
  | .local _ .vmem, ⟨1, _⟩ => ⟨S2x4096x256, .f32⟩
  | .local _ .vmem, ⟨2, _⟩ => ⟨S3x2x1024x256, .i8⟩
  | .local _ .vmem, ⟨3, _⟩ => ⟨S3x2x1024, .f32⟩
  | .local _ .vmem, ⟨4, _⟩ => ⟨S4x2x1024x256, .i8⟩
  | .local _ .vmem, ⟨5, _⟩ => ⟨S4x2x1024, .f32⟩
  | .local _ .vmem, ⟨6, _⟩ => ⟨S3x1024x512, .f32⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) (c0_i32_2 : BitVec 32) : Fin 2 → Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let v4 : BitVec 32 := Scalar.addi v3 c0_i32
  let c4_i32_1 : BitVec 32 := 4#32
  let v5 : BitVec 32 := Scalar.remsi v4 c4_i32_1
  let c512_i32 : BitVec 32 := 512#32
  let v6 : BitVec 32 := Scalar.muli v5 c512_i32
  let v7 : BitVec 32 := Scalar.addi v6 c0_i32_2
  ![0, v7.toNat]
def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v14 : BitVec 32 := Scalar.addi v2 c1_i32_8
  let c4_i32_9 : BitVec 32 := 4#32
  let v15 : BitVec 32 := Scalar.remsi v14 c4_i32_9
  let c1_i32_11 : BitVec 32 := 1#32
  let v16 : BitVec 32 := Scalar.muli v15 c1_i32_11
  let v17 : BitVec 32 := Scalar.addi c0_i32_12 v16
  v17.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v18 : BitVec 32 := Scalar.addi v2 c2_i32
  let c4_i32_13 : BitVec 32 := 4#32
  let v19 : BitVec 32 := Scalar.remsi v18 c4_i32_13
  let c1_i32_15 : BitVec 32 := 1#32
  let v20 : BitVec 32 := Scalar.muli v19 c1_i32_15
  let v21 : BitVec 32 := Scalar.addi c0_i32_16 v20
  v21.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v22 : BitVec 32 := Scalar.addi v2 c3_i32
  let c4_i32_17 : BitVec 32 := 4#32
  let v23 : BitVec 32 := Scalar.remsi v22 c4_i32_17
  let c1_i32_19 : BitVec 32 := 1#32
  let v24 : BitVec 32 := Scalar.muli v23 c1_i32_19
  let v25 : BitVec 32 := Scalar.addi c0_i32_20 v24
  v25.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_60 : BitVec 32 := 0#32
  ![v2.toNat, 0]
def k0_off3 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_59 : BitVec 32 := 0#32
  let c0_i32_65 : BitVec 32 := 0#32
  let c0_i32_66 : BitVec 32 := 0#32
  ![v2.toNat, 0, 0, 0]
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_54 : BitVec 32 := 1#32
  let v73 : BitVec 32 := Scalar.addi v2 c1_i32_54
  let c0_i32_55 : BitVec 32 := 0#32
  let v74 : BitVec 32 := Scalar.addi v73 c0_i32_55
  let c4_i32_56 : BitVec 32 := 4#32
  let v75 : BitVec 32 := Scalar.remsi v74 c4_i32_56
  let c1_i32_63 : BitVec 32 := 1#32
  let v76 : BitVec 32 := Scalar.muli v75 c1_i32_63
  let v77 : BitVec 32 := Scalar.addi c0_i32_64 v76
  v77.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_71 : BitVec 32 := 0#32
  let c0_i32_77 : BitVec 32 := 0#32
  ![v2.toNat, 0, 0]
def k0_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_54 : BitVec 32 := 1#32
  let v73 : BitVec 32 := Scalar.addi v2 c1_i32_54
  let c0_i32_55 : BitVec 32 := 0#32
  let v74 : BitVec 32 := Scalar.addi v73 c0_i32_55
  let c4_i32_56 : BitVec 32 := 4#32
  let v75 : BitVec 32 := Scalar.remsi v74 c4_i32_56
  let c1_i32_75 : BitVec 32 := 1#32
  let v86 : BitVec 32 := Scalar.muli v75 c1_i32_75
  let v87 : BitVec 32 := Scalar.addi c0_i32_76 v86
  v87.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_115 : BitVec 32 := 1#32
  ![v2.toNat, 1]
def k0_off6 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_114 : BitVec 32 := 1#32
  let c0_i32_120 : BitVec 32 := 0#32
  let c0_i32_121 : BitVec 32 := 0#32
  ![v2.toNat, 1, 0, 0]
def k0_dev6 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_109 : BitVec 32 := 1#32
  let v138 : BitVec 32 := Scalar.addi v2 c1_i32_109
  let c0_i32_110 : BitVec 32 := 0#32
  let v139 : BitVec 32 := Scalar.addi v138 c0_i32_110
  let c4_i32_111 : BitVec 32 := 4#32
  let v140 : BitVec 32 := Scalar.remsi v139 c4_i32_111
  let c1_i32_118 : BitVec 32 := 1#32
  let v141 : BitVec 32 := Scalar.muli v140 c1_i32_118
  let v142 : BitVec 32 := Scalar.addi c0_i32_119 v141
  v142.toNat
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_126 : BitVec 32 := 1#32
  let c0_i32_132 : BitVec 32 := 0#32
  ![v2.toNat, 1, 0]
def k0_dev7 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_109 : BitVec 32 := 1#32
  let v138 : BitVec 32 := Scalar.addi v2 c1_i32_109
  let c0_i32_110 : BitVec 32 := 0#32
  let v139 : BitVec 32 := Scalar.addi v138 c0_i32_110
  let c4_i32_111 : BitVec 32 := 4#32
  let v140 : BitVec 32 := Scalar.remsi v139 c4_i32_111
  let c1_i32_130 : BitVec 32 := 1#32
  let v151 : BitVec 32 := Scalar.muli v140 c1_i32_130
  let v152 : BitVec 32 := Scalar.addi c0_i32_131 v151
  v152.toNat
def k0_dev8 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_165 : BitVec 32 := 1#32
  let v203 : BitVec 32 := Scalar.addi v2 c1_i32_165
  let c1_i32_166 : BitVec 32 := 1#32
  let v204 : BitVec 32 := Scalar.addi v203 c1_i32_166
  let c4_i32_167 : BitVec 32 := 4#32
  let v205 : BitVec 32 := Scalar.remsi v204 c4_i32_167
  let c1_i32_174 : BitVec 32 := 1#32
  let v206 : BitVec 32 := Scalar.muli v205 c1_i32_174
  let v207 : BitVec 32 := Scalar.addi c0_i32_175 v206
  v207.toNat
def k0_dev9 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_165 : BitVec 32 := 1#32
  let v203 : BitVec 32 := Scalar.addi v2 c1_i32_165
  let c1_i32_166 : BitVec 32 := 1#32
  let v204 : BitVec 32 := Scalar.addi v203 c1_i32_166
  let c4_i32_167 : BitVec 32 := 4#32
  let v205 : BitVec 32 := Scalar.remsi v204 c4_i32_167
  let c1_i32_186 : BitVec 32 := 1#32
  let v216 : BitVec 32 := Scalar.muli v205 c1_i32_186
  let v217 : BitVec 32 := Scalar.addi c0_i32_187 v216
  v217.toNat
def k0_dev10 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_221 : BitVec 32 := 1#32
  let v268 : BitVec 32 := Scalar.addi v2 c1_i32_221
  let c1_i32_222 : BitVec 32 := 1#32
  let v269 : BitVec 32 := Scalar.addi v268 c1_i32_222
  let c4_i32_223 : BitVec 32 := 4#32
  let v270 : BitVec 32 := Scalar.remsi v269 c4_i32_223
  let c1_i32_230 : BitVec 32 := 1#32
  let v271 : BitVec 32 := Scalar.muli v270 c1_i32_230
  let v272 : BitVec 32 := Scalar.addi c0_i32_231 v271
  v272.toNat
def k0_dev11 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_221 : BitVec 32 := 1#32
  let v268 : BitVec 32 := Scalar.addi v2 c1_i32_221
  let c1_i32_222 : BitVec 32 := 1#32
  let v269 : BitVec 32 := Scalar.addi v268 c1_i32_222
  let c4_i32_223 : BitVec 32 := 4#32
  let v270 : BitVec 32 := Scalar.remsi v269 c4_i32_223
  let c1_i32_242 : BitVec 32 := 1#32
  let v281 : BitVec 32 := Scalar.muli v270 c1_i32_242
  let v282 : BitVec 32 := Scalar.addi c0_i32_243 v281
  v282.toNat
def k0_dev12 (d0 : Dev nD) : Nat :=
  let c0_i32_286 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_276 : BitVec 32 := 1#32
  let v333 : BitVec 32 := Scalar.addi v2 c1_i32_276
  let c2_i32_277 : BitVec 32 := 2#32
  let v334 : BitVec 32 := Scalar.addi v333 c2_i32_277
  let c4_i32_278 : BitVec 32 := 4#32
  let v335 : BitVec 32 := Scalar.remsi v334 c4_i32_278
  let c1_i32_285 : BitVec 32 := 1#32
  let v336 : BitVec 32 := Scalar.muli v335 c1_i32_285
  let v337 : BitVec 32 := Scalar.addi c0_i32_286 v336
  v337.toNat
def k0_dev13 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_276 : BitVec 32 := 1#32
  let v333 : BitVec 32 := Scalar.addi v2 c1_i32_276
  let c2_i32_277 : BitVec 32 := 2#32
  let v334 : BitVec 32 := Scalar.addi v333 c2_i32_277
  let c4_i32_278 : BitVec 32 := 4#32
  let v335 : BitVec 32 := Scalar.remsi v334 c4_i32_278
  let c1_i32_297 : BitVec 32 := 1#32
  let v346 : BitVec 32 := Scalar.muli v335 c1_i32_297
  let v347 : BitVec 32 := Scalar.addi c0_i32_298 v346
  v347.toNat
def k0_off8 (d0 : Dev nD) (c0_i32_302 : BitVec 32) : Fin 2 → Nat :=
  let c0_i32_307 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_301 : BitVec 32 := 512#32
  let v356 : BitVec 32 := Scalar.muli v2 c512_i32_301
  let v357 : BitVec 32 := Scalar.addi v356 c0_i32_302
  ![0, v357.toNat]
def k0_dev14 (d0 : Dev nD) : Nat :=
  let c0_i32_339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_329 : BitVec 32 := 1#32
  let v395 : BitVec 32 := Scalar.addi v2 c1_i32_329
  let c2_i32_330 : BitVec 32 := 2#32
  let v396 : BitVec 32 := Scalar.addi v395 c2_i32_330
  let c4_i32_331 : BitVec 32 := 4#32
  let v397 : BitVec 32 := Scalar.remsi v396 c4_i32_331
  let c1_i32_338 : BitVec 32 := 1#32
  let v398 : BitVec 32 := Scalar.muli v397 c1_i32_338
  let v399 : BitVec 32 := Scalar.addi c0_i32_339 v398
  v399.toNat
def k0_dev15 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_329 : BitVec 32 := 1#32
  let v395 : BitVec 32 := Scalar.addi v2 c1_i32_329
  let c2_i32_330 : BitVec 32 := 2#32
  let v396 : BitVec 32 := Scalar.addi v395 c2_i32_330
  let c4_i32_331 : BitVec 32 := 4#32
  let v397 : BitVec 32 := Scalar.remsi v396 c4_i32_331
  let c1_i32_350 : BitVec 32 := 1#32
  let v408 : BitVec 32 := Scalar.muli v397 c1_i32_350
  let v409 : BitVec 32 := Scalar.addi c0_i32_351 v408
  v409.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v457 : BitVec 32 := Scalar.muli v2 c1024_i32
  let c0_i32_388 : BitVec 32 := 0#32
  ![v457.toNat, 0]
def k0_off10 (d0 : Dev nD) (c1_i32_392 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_391 : BitVec 32 := 4#32
  let v463 : BitVec 32 := Scalar.addi v2 c4_i32_391
  let v464 : BitVec 32 := Scalar.subi v463 c1_i32_392
  let c4_i32_393 : BitVec 32 := 4#32
  let v465 : BitVec 32 := Scalar.remsi v464 c4_i32_393
  let c0_i32_397 : BitVec 32 := 0#32
  ![v465.toNat, 0]
def k0_off11 (d0 : Dev nD) (c1_i32_392 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_391 : BitVec 32 := 4#32
  let v463 : BitVec 32 := Scalar.addi v2 c4_i32_391
  let v464 : BitVec 32 := Scalar.subi v463 c1_i32_392
  let c4_i32_393 : BitVec 32 := 4#32
  let v465 : BitVec 32 := Scalar.remsi v464 c4_i32_393
  let c0_i32_396 : BitVec 32 := 0#32
  let c0_i32_402 : BitVec 32 := 0#32
  let c0_i32_403 : BitVec 32 := 0#32
  ![v465.toNat, 0, 0, 0]
def k0_off12 (d0 : Dev nD) (c1_i32_392 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_391 : BitVec 32 := 4#32
  let v463 : BitVec 32 := Scalar.addi v2 c4_i32_391
  let v464 : BitVec 32 := Scalar.subi v463 c1_i32_392
  let c4_i32_393 : BitVec 32 := 4#32
  let v465 : BitVec 32 := Scalar.remsi v464 c4_i32_393
  let c0_i32_408 : BitVec 32 := 0#32
  let c0_i32_414 : BitVec 32 := 0#32
  ![v465.toNat, 0, 0]
def k0_off13 (d0 : Dev nD) (c1_i32_392 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_391 : BitVec 32 := 4#32
  let v463 : BitVec 32 := Scalar.addi v2 c4_i32_391
  let v464 : BitVec 32 := Scalar.subi v463 c1_i32_392
  let c4_i32_393 : BitVec 32 := 4#32
  let v465 : BitVec 32 := Scalar.remsi v464 c4_i32_393
  let c1_i32_419 : BitVec 32 := 1#32
  ![v465.toNat, 1]
def k0_off14 (d0 : Dev nD) (c1_i32_392 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_391 : BitVec 32 := 4#32
  let v463 : BitVec 32 := Scalar.addi v2 c4_i32_391
  let v464 : BitVec 32 := Scalar.subi v463 c1_i32_392
  let c4_i32_393 : BitVec 32 := 4#32
  let v465 : BitVec 32 := Scalar.remsi v464 c4_i32_393
  let c1_i32_418 : BitVec 32 := 1#32
  let c0_i32_424 : BitVec 32 := 0#32
  let c0_i32_425 : BitVec 32 := 0#32
  ![v465.toNat, 1, 0, 0]
def k0_off15 (d0 : Dev nD) (c1_i32_392 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_391 : BitVec 32 := 4#32
  let v463 : BitVec 32 := Scalar.addi v2 c4_i32_391
  let v464 : BitVec 32 := Scalar.subi v463 c1_i32_392
  let c4_i32_393 : BitVec 32 := 4#32
  let v465 : BitVec 32 := Scalar.remsi v464 c4_i32_393
  let c1_i32_430 : BitVec 32 := 1#32
  let c0_i32_436 : BitVec 32 := 0#32
  ![v465.toNat, 1, 0]
def k0_off16 (d0 : Dev nD) (c1_i32_392 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_391 : BitVec 32 := 4#32
  let v463 : BitVec 32 := Scalar.addi v2 c4_i32_391
  let v464 : BitVec 32 := Scalar.subi v463 c1_i32_392
  let c4_i32_393 : BitVec 32 := 4#32
  let v465 : BitVec 32 := Scalar.remsi v464 c4_i32_393
  let v498 : Index := Scalar.indexCast v465
  let c0_438 : Index := 0#32
  let c0_439 : Index := 0#32
  ![v498.toNat, 0, 0]
def k0_off17 (d0 : Dev nD) (c1_i32_392 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_391 : BitVec 32 := 4#32
  let v463 : BitVec 32 := Scalar.addi v2 c4_i32_391
  let v464 : BitVec 32 := Scalar.subi v463 c1_i32_392
  let c4_i32_393 : BitVec 32 := 4#32
  let v465 : BitVec 32 := Scalar.remsi v464 c4_i32_393
  let v502 : Index := Scalar.indexCast v465
  let c0_440 : Index := 0#32
  let c0_441 : Index := 0#32
  let c0_442 : Index := 0#32
  ![v502.toNat, 0, 0, 0]
def k0_off18 (d0 : Dev nD) (c1_i32_392 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_391 : BitVec 32 := 4#32
  let v463 : BitVec 32 := Scalar.addi v2 c4_i32_391
  let v464 : BitVec 32 := Scalar.subi v463 c1_i32_392
  let c4_i32_393 : BitVec 32 := 4#32
  let v465 : BitVec 32 := Scalar.remsi v464 c4_i32_393
  let v511 : Index := Scalar.indexCast v465
  let c1_446 : Index := 1#32
  let c0_447 : Index := 0#32
  ![v511.toNat, 1, 0]
def k0_off19 (d0 : Dev nD) (c1_i32_392 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_391 : BitVec 32 := 4#32
  let v463 : BitVec 32 := Scalar.addi v2 c4_i32_391
  let v464 : BitVec 32 := Scalar.subi v463 c1_i32_392
  let c4_i32_393 : BitVec 32 := 4#32
  let v465 : BitVec 32 := Scalar.remsi v464 c4_i32_393
  let v515 : Index := Scalar.indexCast v465
  let c1_448 : Index := 1#32
  let c0_449 : Index := 0#32
  let c0_450 : Index := 0#32
  ![v515.toNat, 1, 0, 0]
def k0_off20 (d0 : Dev nD) (c1_i32_392 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_391 : BitVec 32 := 4#32
  let v463 : BitVec 32 := Scalar.addi v2 c4_i32_391
  let v464 : BitVec 32 := Scalar.subi v463 c1_i32_392
  let c4_i32_393 : BitVec 32 := 4#32
  let v465 : BitVec 32 := Scalar.remsi v464 c4_i32_393
  let c1024_i32_454 : BitVec 32 := 1024#32
  let v524 : BitVec 32 := Scalar.muli v465 c1024_i32_454
  let c0_i32_457 : BitVec 32 := 0#32
  ![v524.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "inv_127" => some ((1 / 127 : ℝ) : EReal)
  | _ => none
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩
abbrev S4x1024x4x2x256 : Shape := ⟨5, ![4, 1024, 4, 2, 256]⟩
abbrev S4x1024x4x2 : Shape := ⟨4, ![4, 1024, 4, 2]⟩
abbrev S4x1024x4x2x1 : Shape := ⟨5, ![4, 1024, 4, 2, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4x1024x4x2x256, .f32⟩
  | .hbm, ⟨13, _⟩ => ⟨S_, .f32⟩
  | .hbm, ⟨14, _⟩ => ⟨S4x1024x4x2, .f32⟩
  | .hbm, ⟨15, _⟩ => ⟨S4x1024x4x2x1, .f32⟩
  | .hbm, ⟨16, _⟩ => ⟨S_, .f32⟩
  | .hbm, ⟨17, _⟩ => ⟨S4x1024x4x2x1, .f32⟩
  | .hbm, ⟨18, _⟩ => ⟨S4x1024x4x2x1, .f32⟩
  | .hbm, ⟨19, _⟩ => ⟨S_, .f32⟩
  | .hbm, ⟨20, _⟩ => ⟨S4x1024x4x2x1, .f32⟩
  | .hbm, ⟨21, _⟩ => ⟨S4x1024x4x2x1, .f32⟩
  | .hbm, ⟨22, _⟩ => ⟨S4x1024x4x2x256, .f32⟩
  | .hbm, ⟨23, _⟩ => ⟨S4x1024x4x2x256, .f32⟩
  | .hbm, ⟨24, _⟩ => ⟨S4x1024x4x2x256, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x1024x4x2x256, .f32⟩
  | .hbm, ⟨29, _⟩ => ⟨S4x1024x4x2x256, .f32⟩
  | .hbm, ⟨30, _⟩ => ⟨S_, .f32⟩
  | .hbm, ⟨31, _⟩ => ⟨S4x1024x4x2x256, .f32⟩
  | .hbm, ⟨32, _⟩ => ⟨S4x1024x4x2x256, .f32⟩
  | .hbm, ⟨33, _⟩ => ⟨S4x1024x4x2x256, .i32⟩
  | .hbm, ⟨34, _⟩ => ⟨S4x1024x4x2x256, .i8⟩
  | .hbm, ⟨35, _⟩ => ⟨S4x1024x4x2x256, .i32⟩
  | .hbm, ⟨36, _⟩ => ⟨S4x1024x4x2x256, .f32⟩
  | .hbm, ⟨37, _⟩ => ⟨S4x1024x4x2x256, .f32⟩
  | .hbm, ⟨38, _⟩ => ⟨S4x1024x4x2x256, .f32⟩
  | .hbm, ⟨39, _⟩ => ⟨S4x1024x4x2x256, .i32⟩
  | .hbm, ⟨40, _⟩ => ⟨S4x1024x4x2x256, .i32⟩
  | .hbm, ⟨41, _⟩ => ⟨S4x1024x4x2x256, .i1⟩
  | .hbm, ⟨42, _⟩ => ⟨S4x1024x4x2x256, .f32⟩
  | .hbm, ⟨43, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Proof.Flat.lean ====
/- The kernel's body over its seven scratch buffers as one chain of named steps, each step a statement or a
   short run of statements of the printed body at a slot named by its place, and the equation of the two. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.A2A

open Cert.KernelIdeal Cert.KernelIdeal.Gen

open Idealize.ShloMosaic
open Idealize.ShloMosaic.TcCoe
open Idealize.SL.Sem

variable {F : FTy → Type} [FloatOps F] [Named F]

/-- The programs of a TensorCore. -/
abbrev Pg (F : FTy → Type) [FloatOps F] [Named F] : Type 1 := Prog (TpuEff nD τ sig (Elt F) Λ₀ .tc) PUnit

/-! ## The buffers -/

abbrev xH : Memref sig .tc .hbm S1024x4096 .f32 := Memref.whole main_arg0
abbrev wH : Memref sig .tc .hbm S4096x2048 .f32 := Memref.whole main_arg1
abbrev oH : Memref sig .tc .hbm S4096x512 .f32 := Memref.whole main_v1
abbrev sxM : Memref sig .tc .smem S1 .f32 := Memref.whole cc0_stg0_0
abbrev swM : Memref sig .tc .smem S1 .f32 := Memref.whole cc0_stg1_0
abbrev xV : Memref sig .tc .vmem S1024x4096 .f32 := Memref.whole cc0_scratch0
abbrev wB : Memref sig .tc .vmem S2x4096x256 .f32 := Memref.whole cc0_scratch1
abbrev yQ : Memref sig .tc .vmem S3x2x1024x256 .i8 := Memref.whole cc0_scratch2
abbrev yS : Memref sig .tc .vmem S3x2x1024 .f32 := Memref.whole cc0_scratch3
abbrev rQ : Memref sig .tc .vmem S4x2x1024x256 .i8 := Memref.whole cc0_scratch4
abbrev rS : Memref sig .tc .vmem S4x2x1024 .f32 := Memref.whole cc0_scratch5
abbrev st : Memref sig .tc .vmem S3x1024x512 .f32 := Memref.whole cc0_scratch6
abbrev barS : Sem sig := (SemArray.scalar (sig.barrier 0 rfl) : Sems sig S_).sem

/-! ## The slots -/

theorem inbW : ∀ b : Fin 2, ∀ a, (![b.val, 0, 0] : Fin 3 → Nat) a + S1x4096x256.size a ≤ S2x4096x256.size a := by decide
theorem inbQ : ∀ (k : Fin 3) (j : Fin 2), ∀ a, (![k.val, j.val, 0, 0] : Fin 4 → Nat) a + S1x1x1024x256.size a ≤ S3x2x1024x256.size a := by decide
theorem inbS : ∀ (k : Fin 3) (j : Fin 2), ∀ a, (![k.val, j.val, 0] : Fin 3 → Nat) a + S1x1x1024.size a ≤ S3x2x1024.size a := by decide
theorem inbK : ∀ (k : Fin 3) (j : Fin 2), ∀ a, (![k.val, j.val] : Fin 2 → Nat) a + S1x1.size a ≤ S3x2.size a := by decide
theorem inbRQ : ∀ (p : Fin 4) (j : Fin 2), ∀ a, (![p.val, j.val, 0, 0] : Fin 4 → Nat) a + S1x1x1024x256.size a ≤ S4x2x1024x256.size a := by decide
theorem inbRS : ∀ (p : Fin 4) (j : Fin 2), ∀ a, (![p.val, j.val, 0] : Fin 3 → Nat) a + S1x1x1024.size a ≤ S4x2x1024.size a := by decide
theorem inbRK : ∀ (p : Fin 4) (j : Fin 2), ∀ a, (![p.val, j.val] : Fin 2 → Nat) a + S1x1.size a ≤ S4x2.size a := by decide
theorem inbT : ∀ g : Fin 3, ∀ a, (![g.val, 0, 0] : Fin 3 → Nat) a + S1x1024x512.size a ≤ S3x1024x512.size a := by decide
theorem inbH : ∀ (g : Fin 3) (j : Fin 2), ∀ a, (![g.val, 0, 256 * j.val] : Fin 3 → Nat) a + S1x1024x256.size a ≤ S3x1024x512.size a := by decide
theorem inbB : ∀ b : Fin 2, ∀ a, (![b.val] : Fin 1 → Nat) a + S1.size a ≤ S2.size a := by decide
theorem inbO : ∀ g : Fin 3, ∀ a, (![g.val] : Fin 1 → Nat) a + S1.size a ≤ S3.size a := by decide
theorem wordsQ : ∀ (k : Fin 3) (j : Fin 2), (Rect.unit (s := S3x2x1024x256) ![k.val, j.val, 0, 0] S1x1x1024x256.size (inbQ k j)).WholeWords (EltTy.packing .i8) := by decide
theorem packedQ : ∀ (k : Fin 3) (j : Fin 2), (Rect.unit (s := S3x2x1024x256) ![k.val, j.val, 0, 0] S1x1x1024x256.size (inbQ k j)).PackedRows (EltTy.packing .i8) := by decide

/-- The rectangle of the weight slot `b`. -/
abbrev wR (b : Fin 2) : Rect S2x4096x256 := Rect.unit (s := S2x4096x256) ![b.val, 0, 0] S1x4096x256.size (inbW b)
abbrev wSlot (b : Fin 2) : Memref sig .tc .vmem S4096x256 .f32 := (wB.slice (wR b) (fun _ => rfl)).squeeze S4096x256 squeezes_S1x4096x256_S4096x256
abbrev wSem (b : Fin 2) : DmaSems sig S_ := (cc0_scratch8.slice (Rect.unit (s := S2) ![b.val] S1.size (inbB b))).squeeze S_ squeezes_S1_S_
/-- 256 columns of the weights, at the offsets `o`. -/
abbrev wSrc (o : Fin 2 → ℕ) (h : ∀ a, o a + S4096x256.size a ≤ S4096x2048.size a) : Memref sig .tc .hbm S4096x256 .f32 :=
  wH.slice (Rect.unit (s := S4096x2048) o S4096x256.size h) (fun _ => rfl)
/-- The slot of the codes sent in step `k`, half `j`; and of their scales. -/
abbrev yQR (k : Fin 3) (j : Fin 2) : Rect S3x2x1024x256 := Rect.unit (s := S3x2x1024x256) ![k.val, j.val, 0, 0] S1x1x1024x256.size (inbQ k j)
abbrev ySR (k : Fin 3) (j : Fin 2) : Rect S3x2x1024 := Rect.unit (s := S3x2x1024) ![k.val, j.val, 0] S1x1x1024.size (inbS k j)
abbrev yQs (k : Fin 3) (j : Fin 2) : Memref sig .tc .vmem S1024x256 .i8 := (yQ.slice (yQR k j) (fun _ => rfl)).squeeze S1024x256 squeezes_S1x1x1024x256_S1024x256
abbrev ySs (k : Fin 3) (j : Fin 2) : Memref sig .tc .vmem S1024 .f32 := (yS.slice (ySR k j) (fun _ => rfl)).squeeze S1024 squeezes_S1x1x1024_S1024
abbrev sQs (k : Fin 3) (j : Fin 2) : DmaSems sig S_ := (cc0_scratch10.slice (Rect.unit (s := S3x2) ![k.val, j.val] S1x1.size (inbK k j))).squeeze S_ squeezes_S1x1_S_
abbrev sSs (k : Fin 3) (j : Fin 2) : DmaSems sig S_ := (cc0_scratch12.slice (Rect.unit (s := S3x2) ![k.val, j.val] S1x1.size (inbK k j))).squeeze S_ squeezes_S1x1_S_
/-- The landing slots and their semaphores, at offsets. -/
abbrev rQo (o : Fin 4 → ℕ) (h : ∀ a, o a + S1x1x1024x256.size a ≤ S4x2x1024x256.size a) : Memref sig .tc .vmem S1024x256 .i8 :=
  (rQ.slice (Rect.unit (s := S4x2x1024x256) o S1x1x1024x256.size h) (fun _ => rfl)).squeeze S1024x256 squeezes_S1x1x1024x256_S1024x256
abbrev rSo (o : Fin 3 → ℕ) (h : ∀ a, o a + S1x1x1024.size a ≤ S4x2x1024.size a) : Memref sig .tc .vmem S1024 .f32 :=
  (rS.slice (Rect.unit (s := S4x2x1024) o S1x1x1024.size h) (fun _ => rfl)).squeeze S1024 squeezes_S1x1x1024_S1024
abbrev vQo (o : Fin 2 → ℕ) (h : ∀ a, o a + S1x1.size a ≤ S4x2.size a) : DmaSems sig S_ :=
  (cc0_scratch11.slice (Rect.unit (s := S4x2) o S1x1.size h)).squeeze S_ squeezes_S1x1_S_
abbrev vSo (o : Fin 2 → ℕ) (h : ∀ a, o a + S1x1.size a ≤ S4x2.size a) : DmaSems sig S_ :=
  (cc0_scratch13.slice (Rect.unit (s := S4x2) o S1x1.size h)).squeeze S_ squeezes_S1x1_S_
/-- The landing slots of source `p`, half `j`, and their semaphores. -/
abbrev rQs (p : Fin 4) (j : Fin 2) := rQo ![p.val, j.val, 0, 0] (inbRQ p j)
abbrev rSs (p : Fin 4) (j : Fin 2) := rSo ![p.val, j.val, 0] (inbRS p j)
abbrev vQs (p : Fin 4) (j : Fin 2) := vQo ![p.val, j.val] (inbRK p j)
abbrev vSs (p : Fin 4) (j : Fin 2) := vSo ![p.val, j.val] (inbRK p j)
/-- The staging slot `g`, half `j` of it as it is stored, and the 1024 rows of the result at the offsets `o`. -/
abbrev tH (g : Fin 3) (j : Fin 2) : Rect S3x1024x512 := Rect.unit (s := S3x1024x512) ![g.val, 0, 256 * j.val] S1x1024x256.size (inbH g j)
abbrev tSlot (g : Fin 3) : Memref sig .tc .vmem S1024x512 .f32 :=
  (st.slice (Rect.unit (s := S3x1024x512) ![g.val, 0, 0] S1x1024x512.size (inbT g)) (fun _ => rfl)).squeeze S1024x512 squeezes_S1x1024x512_S1024x512
abbrev oSem (g : Fin 3) : DmaSems sig S_ := (cc0_scratch9.slice (Rect.unit (s := S3) ![g.val] S1.size (inbO g))).squeeze S_ squeezes_S1_S_
abbrev oRow (o : Fin 2 → ℕ) (h : ∀ a, o a + S1024x512.size a ≤ S4096x512.size a) : Memref sig .tc .hbm S1024x512 .f32 :=
  oH.slice (Rect.unit (s := S4096x512) o S1024x512.size h) (fun _ => rfl)

theorem wxQ (k : Fin 3) (j : Fin 2) : (yQs k j).view.WordExact :=
  ((Memref.isWhole_whole cc0_scratch2).wordExact_slice rfl _ (wordsQ k j)).reshape _ _
theorem wxRQ (o : Fin 4 → ℕ) (h : ∀ a, o a + S1x1x1024x256.size a ≤ S4x2x1024x256.size a)
    (hw : (Rect.unit (s := S4x2x1024x256) o S1x1x1024x256.size h).WholeWords (EltTy.packing .i8)) : (rQo o h).view.WordExact :=
  ((Memref.isWhole_whole cc0_scratch4).wordExact_slice rfl _ hw).reshape _ _

/-! ## What is computed of one block -/

/-- The codes of one block of the product: from the two scales, the operand and 256 columns of the weights. -/
def cQ (a b : Elt F .f32) (x : Vec F S1024x4096 .f32) (w : Vec F S1x4096x256 .f32) : IVec S1x1x1024x256 8 := k0_pay16 (k0_pay1 a b) (k0_pay2 x) w
/-- Their scales, one per row. -/
def cS (a b : Elt F .f32) (x : Vec F S1024x4096 .f32) (w : Vec F S1x4096x256 .f32) : FVec F S1x1x1024 .f32 := k0_pay17 (k0_pay1 a b) (k0_pay2 x) w
/-- The block itself, as the device keeps it. -/
def cO (a b : Elt F .f32) (x : Vec F S1024x4096 .f32) (w : Vec F S1x4096x256 .f32) : FVec F S1x1024x256 .f32 := k0_pay30 (k0_pay1 a b) (k0_pay2 x) w
/-- A received block: codes times scales. -/
def dq (s : Vec F S1x1x1024 .f32) (q : Vec F S1x1x1024x256 .i8) : FVec F S1x1024x256 .f32 := k0_pay36 s q

/-! ## The steps -/

def wStart (o : Fin 2 → ℕ) (h : ∀ a, o a + S4096x256.size a ≤ S4096x2048.size a) (b : Fin 2) (K : Pg F) : Pg F :=
  .op (.enqueueDma (wSrc o h) (.here (wSlot b)) (.dma (wSem b).sem) (View.wordExact_bits rfl) ((View.wordExact_bits rfl).reshape _ _) ⟨Or.inl rfl, trivial⟩) fun _ => K
def wWait (o : Fin 2 → ℕ) (h : ∀ a, o a + S4096x256.size a ≤ S4096x2048.size a) (b : Fin 2) (K : Vec F S1x4096x256 .f32 → Pg F) : Pg F :=
  .op (.waitDma2 (wSem b).sem (wSrc o h) (wSlot b) (View.wordExact_bits rfl) ((View.wordExact_bits rfl).reshape _ _)) fun _ =>
  .op (.load wB (wR b).toLoadRect (View.loadsAt_vmem h_S1x4096x256)) K
def tStore (k : Fin 3) (j : Fin 2) (q : IVec S1x1x1024x256 8) (s : FVec F S1x1x1024 .f32) (K : Pg F) : Pg F :=
  .op (.load yQ (yQR k j).toLoadRect (View.loadsAt_vmem h_S1x1x1024x256)) fun _ =>
  .op (.store yQ (yQR k j) q Finset.univ (View.stores_vmem h_S1x1x1024x256 ((Memref.isWhole_whole cc0_scratch2).storeExact_slice rfl _ (packedQ k j)) (fun _ => rfl)) (.inl rfl)) fun _ =>
  .op (.load yS (ySR k j).toLoadRect (View.loadsAt_vmem h_S1x1x1024)) fun _ =>
  .op (.store yS (ySR k j) s Finset.univ (View.stores_vmem_bits_univ h_S1x1x1024 rfl) (.inl rfl)) fun _ => K
def qSend (k : Fin 3) (j : Fin 2) (p : Dev nD) (o : Fin 4 → ℕ) (h : ∀ a, o a + S1x1x1024x256.size a ≤ S4x2x1024x256.size a)
    (hw : (Rect.unit (s := S4x2x1024x256) o S1x1x1024x256.size h).WholeWords (EltTy.packing .i8))
    (o' : Fin 2 → ℕ) (h' : ∀ a, o' a + S1x1.size a ≤ S4x2.size a) (K : Pg F) : Pg F :=
  .op (.enqueueDma (yQs k j) (.remote (Dev.tc p) (rQo o h) (.dma (sQs k j).sem)) (.dma (vQo o' h').sem) (wxQ k j) (wxRQ o h hw) ⟨⟨rfl, Or.inl rfl⟩, trivial⟩) fun _ => K
def sSend (k : Fin 3) (j : Fin 2) (p : Dev nD) (o : Fin 3 → ℕ) (h : ∀ a, o a + S1x1x1024.size a ≤ S4x2x1024.size a)
    (o' : Fin 2 → ℕ) (h' : ∀ a, o' a + S1x1.size a ≤ S4x2.size a) (K : Pg F) : Pg F :=
  .op (.enqueueDma (ySs k j) (.remote (Dev.tc p) (rSo o h) (.dma (sSs k j).sem)) (.dma (vSo o' h').sem) ((View.wordExact_bits rfl).reshape _ _) ((View.wordExact_bits rfl).reshape _ _) ⟨⟨rfl, Or.inl rfl⟩, trivial⟩) fun _ => K
def qRecv (o : Fin 4 → ℕ) (h : ∀ a, o a + S1x1x1024x256.size a ≤ S4x2x1024x256.size a)
    (hw : (Rect.unit (s := S4x2x1024x256) o S1x1x1024x256.size h).WholeWords (EltTy.packing .i8))
    (o' : Fin 2 → ℕ) (h' : ∀ a, o' a + S1x1.size a ≤ S4x2.size a) (K : Pg F) : Pg F :=
  .op (.waitDma2 (vQo o' h').sem (yQs 0 0) (rQo o h) (wxQ 0 0) (wxRQ o h hw)) fun _ => K
def sRecv (j : Fin 2) (o : Fin 3 → ℕ) (h : ∀ a, o a + S1x1x1024.size a ≤ S4x2x1024.size a)
    (o' : Fin 2 → ℕ) (h' : ∀ a, o' a + S1x1.size a ≤ S4x2.size a) (K : Pg F) : Pg F :=
  .op (.waitDma2 (vSo o' h').sem (ySs 0 j) (rSo o h) ((View.wordExact_bits rfl).reshape _ _) ((View.wordExact_bits rfl).reshape _ _)) fun _ => K
def tRead (o : Fin 3 → ℕ) (h : ∀ a, o a + S1x1x1024.size a ≤ S4x2x1024.size a)
    (o' : Fin 4 → ℕ) (h' : ∀ a, o' a + S1x1x1024x256.size a ≤ S4x2x1024x256.size a) (K : Vec F S1x1x1024 .f32 → Vec F S1x1x1024x256 .i8 → Pg F) : Pg F :=
  .op (.load rS (Rect.unit (s := S4x2x1024) o S1x1x1024.size h).toLoadRect (View.loadsAt_vmem h_S1x1x1024)) fun s =>
  .op (.load rQ (Rect.unit (s := S4x2x1024x256) o' S1x1x1024x256.size h').toLoadRect (View.loadsAt_vmem h_S1x1x1024x256)) fun q => K s q
def tPut (g : Fin 3) (j : Fin 2) (v : FVec F S1x1024x256 .f32) (K : Pg F) : Pg F :=
  .op (.load st (tH g j).toLoadRect (View.loadsAt_vmem h_S1x1024x256)) fun _ =>
  .op (.store st (tH g j) v Finset.univ (View.stores_vmem_bits_univ h_S1x1024x256 rfl) (.inl rfl)) fun _ => K
def oStart (g : Fin 3) (o : Fin 2 → ℕ) (h : ∀ a, o a + S1024x512.size a ≤ S4096x512.size a) (K : Pg F) : Pg F :=
  .op (.enqueueDma (tSlot g) (.here (oRow o h)) (.dma (oSem g).sem) ((View.wordExact_bits rfl).reshape _ _) (View.wordExact_bits rfl) ⟨Or.inl rfl, trivial⟩) fun _ => K
def oWait (g : Fin 3) (o : Fin 2 → ℕ) (h : ∀ a, o a + S1024x512.size a ≤ S4096x512.size a) (K : Pg F) : Pg F :=
  .op (.waitDma2 (oSem g).sem (tSlot g) (oRow o h) ((View.wordExact_bits rfl).reshape _ _) (View.wordExact_bits rfl)) fun _ => K
def qDone (k : Fin 3) (j : Fin 2) (o : Fin 4 → ℕ) (h : ∀ a, o a + S1x1x1024x256.size a ≤ S4x2x1024x256.size a)
    (hw : (Rect.unit (s := S4x2x1024x256) o S1x1x1024x256.size h).WholeWords (EltTy.packing .i8)) (K : Pg F) : Pg F :=
  .op (.waitDma2 (sQs k j).sem (rQo o h) (yQs k j) (wxRQ o h hw) (wxQ k j)) fun _ => K
def sDone (k : Fin 3) (j : Fin 2) (o : Fin 3 → ℕ) (h : ∀ a, o a + S1x1x1024.size a ≤ S4x2x1024.size a) (K : Pg F) : Pg F :=
  .op (.waitDma2 (sSs k j).sem (rSo o h) (ySs k j) ((View.wordExact_bits rfl).reshape _ _) ((View.wordExact_bits rfl).reshape _ _)) fun _ => K

/-- The body: `d0` the device. -/
def flat (d0 : Dev nD) : Pg F :=
  .op (.enqueueDma xH (.here xV) (.dma cc0_scratch7.sem) (Memref.isWhole_whole _).wordExact (Memref.isWhole_whole _).wordExact ⟨Or.inl rfl, trivial⟩) fun _ =>
  wStart (k0_off1 d0 0#32 0#32) (k0_off1_inb d0 0 0) 0 <|
  .op (.semSignal (Dev.tc (⟨k0_dev1 d0, k0_dev1_lt d0⟩ : Dev nD)) barS 1) fun _ =>
  .op (.semSignal (Dev.tc (⟨k0_dev2 d0, k0_dev2_lt d0⟩ : Dev nD)) barS 1) fun _ =>
  .op (.semSignal (Dev.tc (⟨k0_dev3 d0, k0_dev3_lt d0⟩ : Dev nD)) barS 1) fun _ =>
  .op (.semWait barS 3) fun _ =>
  .op (.load sxM (Rect.unit (s := S1) ![0] S1.size inb_S1_S1_0).toLoadRect (View.loadsAt_rect (View.loads_smem_one rfl numel1_S1))) fun u26 => let v26 : Elt F .f32 := u26 (Shape.Idx.first (numel1_S1.symm ▸ Nat.one_pos))
  .op (.load swM (Rect.unit (s := S1) ![0] S1.size inb_S1_S1_0).toLoadRect (View.loadsAt_rect (View.loads_smem_one rfl numel1_S1))) fun u27 => let v27 : Elt F .f32 := u27 (Shape.Idx.first (numel1_S1.symm ▸ Nat.one_pos))
  .op (.waitDma2 cc0_scratch7.sem xH xV (Memref.isWhole_whole _).wordExact (Memref.isWhole_whole _).wordExact) fun _ =>
  .op (.load xV (Rect.unit (s := S1024x4096) ![0, 0] S1024x4096.size inb_S1024x4096_S1024x4096_0_0).toLoadRect (View.loadsAt_vmem h_S1024x4096)) fun v29 =>
  wStart (k0_off1 d0 0#32 256#32) (k0_off1_inb d0 0 1) 1 <| wWait (k0_off1 d0 0#32 0#32) (k0_off1_inb d0 0 0) 0 fun w =>
  tStore 0 0 (cQ v26 v27 v29 w) (cS v26 v27 v29 w) <|
  qSend 0 0 ⟨k0_dev4 d0, k0_dev4_lt d0⟩ (k0_off3 d0) (k0_off3_inb d0) (k0_off3_wordsi8 d0) (k0_off2 d0) (k0_off2_inb d0) <|
  sSend 0 0 ⟨k0_dev5 d0, k0_dev5_lt d0⟩ (k0_off4 d0) (k0_off4_inb d0) (k0_off2 d0) (k0_off2_inb d0) <|
  wStart (k0_off1 d0 1#32 0#32) (k0_off1_inb d0 1 0) 0 <| wWait (k0_off1 d0 0#32 256#32) (k0_off1_inb d0 0 1) 1 fun w =>
  tStore 0 1 (cQ v26 v27 v29 w) (cS v26 v27 v29 w) <|
  qSend 0 1 ⟨k0_dev6 d0, k0_dev6_lt d0⟩ (k0_off6 d0) (k0_off6_inb d0) (k0_off6_wordsi8 d0) (k0_off5 d0) (k0_off5_inb d0) <|
  sSend 0 1 ⟨k0_dev7 d0, k0_dev7_lt d0⟩ (k0_off7 d0) (k0_off7_inb d0) (k0_off5 d0) (k0_off5_inb d0) <|
  wStart (k0_off1 d0 1#32 256#32) (k0_off1_inb d0 1 1) 1 <| wWait (k0_off1 d0 1#32 0#32) (k0_off1_inb d0 1 0) 0 fun w =>
  tStore 1 0 (cQ v26 v27 v29 w) (cS v26 v27 v29 w) <|
  qSend 1 0 ⟨k0_dev8 d0, k0_dev8_lt d0⟩ (k0_off3 d0) (k0_off3_inb d0) (k0_off3_wordsi8 d0) (k0_off2 d0) (k0_off2_inb d0) <|
  sSend 1 0 ⟨k0_dev9 d0, k0_dev9_lt d0⟩ (k0_off4 d0) (k0_off4_inb d0) (k0_off2 d0) (k0_off2_inb d0) <|
  wStart (k0_off1 d0 2#32 0#32) (k0_off1_inb d0 2 0) 0 <| wWait (k0_off1 d0 1#32 256#32) (k0_off1_inb d0 1 1) 1 fun w =>
  tStore 1 1 (cQ v26 v27 v29 w) (cS v26 v27 v29 w) <|
  qSend 1 1 ⟨k0_dev10 d0, k0_dev10_lt d0⟩ (k0_off6 d0) (k0_off6_inb d0) (k0_off6_wordsi8 d0) (k0_off5 d0) (k0_off5_inb d0) <|
  sSend 1 1 ⟨k0_dev11 d0, k0_dev11_lt d0⟩ (k0_off7 d0) (k0_off7_inb d0) (k0_off5 d0) (k0_off5_inb d0) <|
  wStart (k0_off1 d0 2#32 256#32) (k0_off1_inb d0 2 1) 1 <| wWait (k0_off1 d0 2#32 0#32) (k0_off1_inb d0 2 0) 0 fun w =>
  tStore 2 0 (cQ v26 v27 v29 w) (cS v26 v27 v29 w) <|
  qSend 2 0 ⟨k0_dev12 d0, k0_dev12_lt d0⟩ (k0_off3 d0) (k0_off3_inb d0) (k0_off3_wordsi8 d0) (k0_off2 d0) (k0_off2_inb d0) <|
  sSend 2 0 ⟨k0_dev13 d0, k0_dev13_lt d0⟩ (k0_off4 d0) (k0_off4_inb d0) (k0_off2 d0) (k0_off2_inb d0) <|
  wStart (k0_off8 d0 0#32) (k0_off8_inb d0 0) 0 <| wWait (k0_off1 d0 2#32 256#32) (k0_off1_inb d0 2 1) 1 fun w =>
  tStore 2 1 (cQ v26 v27 v29 w) (cS v26 v27 v29 w) <|
  qSend 2 1 ⟨k0_dev14 d0, k0_dev14_lt d0⟩ (k0_off6 d0) (k0_off6_inb d0) (k0_off6_wordsi8 d0) (k0_off5 d0) (k0_off5_inb d0) <|
  sSend 2 1 ⟨k0_dev15 d0, k0_dev15_lt d0⟩ (k0_off7 d0) (k0_off7_inb d0) (k0_off5 d0) (k0_off5_inb d0) <|
  wStart (k0_off8 d0 256#32) (k0_off8_inb d0 1) 1 <| wWait (k0_off8 d0 0#32) (k0_off8_inb d0 0) 0 fun w => tPut 0 0 (cO v26 v27 v29 w) <|
  wWait (k0_off8 d0 256#32) (k0_off8_inb d0 1) 1 fun w => tPut 0 1 (cO v26 v27 v29 w) <|
  oStart 0 (k0_off9 d0) (k0_off9_inb d0) <|
  qRecv (k0_off11 d0 1#32) (k0_off11_inb d0 0) (k0_off11_wordsi8 d0 0) (k0_off10 d0 1#32) (k0_off10_inb d0 0) <| sRecv 0 (k0_off12 d0 1#32) (k0_off12_inb d0 0) (k0_off10 d0 1#32) (k0_off10_inb d0 0) <|
  qRecv (k0_off14 d0 1#32) (k0_off14_inb d0 0) (k0_off14_wordsi8 d0 0) (k0_off13 d0 1#32) (k0_off13_inb d0 0) <| sRecv 1 (k0_off15 d0 1#32) (k0_off15_inb d0 0) (k0_off13 d0 1#32) (k0_off13_inb d0 0) <|
  tRead (k0_off16 d0 1#32) (k0_off16_inb d0 0) (k0_off17 d0 1#32) (k0_off17_inb d0 0) fun s q => tPut 1 0 (dq s q) <|
  tRead (k0_off18 d0 1#32) (k0_off18_inb d0 0) (k0_off19 d0 1#32) (k0_off19_inb d0 0) fun s q => tPut 1 1 (dq s q) <|
  oStart 1 (k0_off20 d0 1#32) (k0_off20_inb d0 0) <|
  qRecv (k0_off11 d0 2#32) (k0_off11_inb d0 1) (k0_off11_wordsi8 d0 1) (k0_off10 d0 2#32) (k0_off10_inb d0 1) <| sRecv 0 (k0_off12 d0 2#32) (k0_off12_inb d0 1) (k0_off10 d0 2#32) (k0_off10_inb d0 1) <|
  qRecv (k0_off14 d0 2#32) (k0_off14_inb d0 1) (k0_off14_wordsi8 d0 1) (k0_off13 d0 2#32) (k0_off13_inb d0 1) <| sRecv 1 (k0_off15 d0 2#32) (k0_off15_inb d0 1) (k0_off13 d0 2#32) (k0_off13_inb d0 1) <|
  tRead (k0_off16 d0 2#32) (k0_off16_inb d0 1) (k0_off17 d0 2#32) (k0_off17_inb d0 1) fun s q => tPut 2 0 (dq s q) <|
  tRead (k0_off18 d0 2#32) (k0_off18_inb d0 1) (k0_off19 d0 2#32) (k0_off19_inb d0 1) fun s q => tPut 2 1 (dq s q) <|
  oStart 2 (k0_off20 d0 2#32) (k0_off20_inb d0 1) <|
  qRecv (k0_off11 d0 3#32) (k0_off11_inb d0 2) (k0_off11_wordsi8 d0 2) (k0_off10 d0 3#32) (k0_off10_inb d0 2) <| sRecv 0 (k0_off12 d0 3#32) (k0_off12_inb d0 2) (k0_off10 d0 3#32) (k0_off10_inb d0 2) <|
  qRecv (k0_off14 d0 3#32) (k0_off14_inb d0 2) (k0_off14_wordsi8 d0 2) (k0_off13 d0 3#32) (k0_off13_inb d0 2) <| sRecv 1 (k0_off15 d0 3#32) (k0_off15_inb d0 2) (k0_off13 d0 3#32) (k0_off13_inb d0 2) <|
  oWait 1 (k0_off20 d0 1#32) (k0_off20_inb d0 0) <|
  tRead (k0_off16 d0 3#32) (k0_off16_inb d0 2) (k0_off17 d0 3#32) (k0_off17_inb d0 2) fun s q => tPut 1 0 (dq s q) <|
  tRead (k0_off18 d0 3#32) (k0_off18_inb d0 2) (k0_off19 d0 3#32) (k0_off19_inb d0 2) fun s q => tPut 1 1 (dq s q) <|
  oStart 1 (k0_off20 d0 3#32) (k0_off20_inb d0 2) <|
  oWait 0 (k0_off9 d0) (k0_off9_inb d0) <| oWait 2 (k0_off20 d0 2#32) (k0_off20_inb d0 1) <| oWait 1 (k0_off20 d0 3#32) (k0_off20_inb d0 2) <|
  qDone 0 0 (k0_off3 d0) (k0_off3_inb d0) (k0_off3_wordsi8 d0) <| sDone 0 0 (k0_off4 d0) (k0_off4_inb d0) <|
  qDone 0 1 (k0_off6 d0) (k0_off6_inb d0) (k0_off6_wordsi8 d0) <| sDone 0 1 (k0_off7 d0) (k0_off7_inb d0) <|
  qDone 1 0 (k0_off3 d0) (k0_off3_inb d0) (k0_off3_wordsi8 d0) <| sDone 1 0 (k0_off4 d0) (k0_off4_inb d0) <|
  qDone 1 1 (k0_off6 d0) (k0_off6_inb d0) (k0_off6_wordsi8 d0) <| sDone 1 1 (k0_off7 d0) (k0_off7_inb d0) <|
  qDone 2 0 (k0_off3 d0) (k0_off3_inb d0) (k0_off3_wordsi8 d0) <| sDone 2 0 (k0_off4 d0) (k0_off4_inb d0) <|
  qDone 2 1 (k0_off6 d0) (k0_off6_inb d0) (k0_off6_wordsi8 d0) <| sDone 2 1 (k0_off7 d0) (k0_off7_inb d0) <|
  .ret ⟨⟩

set_option maxRecDepth 65536 in
/-- The kernel's body is that chain. -/
theorem body_eq (t : Fin cfg0.N) : bodyAt0 (F := F) t = .op .deviceId fun d0 => flat (F := F) d0 := by
  rfl

end Cert.KernelIdeal.A2A

end
-- ==== Proof.Sched.lean ====
/- What the devices say to each other: the semaphores that more than one device touches, for each the units it is
   to receive, who gives them and what memory comes with them; what a device owes when the kernel starts. -/
module

public import proofs.«01_k».proof.Proof.Flat

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The schedule's records: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER (F := F)).LandsIn (upEmb : UEmb _ 𝕄) := by unfold ER; infer_instance

variable (m : (ℓ : Loc nD τ sig) → Buf (Elt F) ℓ)

/-! ## The devices -/

set_option backward.proofsInPublic true in
/-- The device `n` places after `c`. -/
def aft (c : Dev nD) (n : ℕ) : Dev nD := ⟨(c.val + n) % 4, Nat.mod_lt _ (by decide)⟩
/-- To whom `c` sends in step `k`. -/
def dst (c : Dev nD) (k : Fin 3) : Dev nD := aft c (k.val + 1)
/-- From whom `c` receives what was sent in step `k`. -/
def src (c : Dev nD) (k : Fin 3) : Dev nD := aft c (3 - k.val)

theorem dst_src (c : Dev nD) (k : Fin 3) : dst (src c k) k = c := by revert c k; decide
theorem src_dst (c : Dev nD) (k : Fin 3) : src (dst c k) k = c := by revert c k; decide
theorem src_ne (c : Dev nD) (k : Fin 3) : src c k ≠ c := by revert c k; decide

/-! ## The cells -/

/-- A device's cells: its barrier; and for each step and half, sending or receiving, the codes' and the scales'. -/
abbrev CI : Type := Option (Bool × Bool × Fin 3 × Fin 2)

def csem (c : Dev nD) : CI → SemLoc sig
  | none => .reg barS
  | some (false, false, k, j) => .dma (sQs k j).sem
  | some (false, true, k, j) => .dma (sSs k j).sem
  | some (true, false, k, j) => .dma (vQs (src c k) j).sem
  | some (true, true, k, j) => .dma (vSs (src c k) j).sem

abbrev kcell (ci : Dev nD × CI) : GSem nD τ sig := ((ci.1 : Thread nD τ), csem ci.1 ci.2)

theorem csem_inj (c : Dev nD) : Function.Injective (csem c) := by
  revert c; unfold Function.Injective; decide +kernel

theorem kcell_inj : Function.Injective kcell := by
  rintro ⟨c, i⟩ ⟨c', i'⟩ h
  have h1 : c = c' := by have := congrArg (fun g : GSem nD τ sig => g.1.1) h; exact this
  subst h1
  have h2 : csem c i = csem c i' := congrArg Prod.snd h
  rw [csem_inj c h2]

/-- A transfer's credit: of codes, of scales. -/
def NQ : ℕ := (rQs 0 0).view.dmaCredit
def NS : ℕ := (rSs 0 0).view.dmaCredit
theorem NQ_pos : 0 < NQ := View.dmaCredit_pos _ (by decide)
theorem NS_pos : 0 < NS := View.dmaCredit_pos _ (by decide)

/-- The units of one duty of a cell. -/
def amt : CI → ℕ
  | none => 1
  | some (_, false, _, _) => NQ
  | some (_, true, _, _) => NS
theorem amt_pos (i : CI) : 0 < amt i := by
  rcases i with _ | ⟨d, _ | _, k, j⟩
  · exact Nat.one_pos
  · exact NQ_pos
  · exact NS_pos

/-- The duties of a cell: the barrier's three, one of each other. -/
def dut : CI → Finset (Fin 3)
  | none => Finset.univ
  | some _ => {0}

/-! ## The contents -/

theorem inbWc : ∀ (r : Fin 4) (j : Fin 2), ∀ a, (![0, 512 * r.val + 256 * j.val] : Fin 2 → Nat) a + S4096x256.size a ≤ S4096x2048.size a := by decide

/-- Device `p`'s scales, operand, and the 256 columns of the weights that make half `j` of what is for `r`. -/
def stg0 (p : Dev nD) : (cc0_stg0_0 : Ref sig .tc).ty.Contents (Elt F) := (win0_0.blk (0 : Fin 1)).view.read (Elt F) (m ((p : Thread nD τ).loc main_arg2))
def stg1 (p : Dev nD) : (cc0_stg1_0 : Ref sig .tc).ty.Contents (Elt F) := (win0_1.blk (0 : Fin 1)).view.read (Elt F) (m ((p : Thread nD τ).loc main_arg3))
def vA (p : Dev nD) : Elt F .f32 := (stg0 m p : S1.Idx → Elt F .f32) (Shape.Idx.first (numel1_S1.symm ▸ Nat.one_pos))
def vB (p : Dev nD) : Elt F .f32 := (stg1 m p : S1.Idx → Elt F .f32) (Shape.Idx.first (numel1_S1.symm ▸ Nat.one_pos))
def vX (p : Dev nD) : Vec F S1024x4096 .f32 := (m ((p : Thread nD τ).loc main_arg0) : S1024x4096.Idx → Elt F .f32)
def vW (p : Dev nD) (r : Fin 4) (j : Fin 2) : Vec F S1x4096x256 .f32 :=
  shapeCast S1x4096x256 ((wSrc ![0, 512 * r.val + 256 * j.val] (inbWc r j)).view.read (Elt F) (m ((p : Thread nD τ).loc main_arg1)))
    (by unfold Shape.ShapeCasts; decide)
/-- The codes and scales of half `j` of the block of `p` that is for `r`, and the block itself. -/
def tQ (p r : Dev nD) (j : Fin 2) : Vec F S1x1x1024x256 .i8 := cQ (vA m p) (vB m p) (vX m p) (vW m p r j)
def tS (p r : Dev nD) (j : Fin 2) : Vec F S1x1x1024 .f32 := cS (vA m p) (vB m p) (vX m p) (vW m p r j)
def tO (p r : Dev nD) (j : Fin 2) : Vec F S1x1024x256 .f32 := cO (vA m p) (vB m p) (vX m p) (vW m p r j)

/-- The landing slot of source `p`, half `j`, on device `c`, holding the codes (scales) `v`. -/
def slotQ (c : Dev nD) (p : Fin 4) (j : Fin 2) (v : Vec F S1x1x1024x256 .i8) : sProp 𝕄 :=
  iprop(∃ f : Buf (Elt F) ((rQs p j).view.loc (c : Thread nD τ)),
    ⌜(rQs p j).view.read (Elt F) f = shapeCast S1024x256 v shapeCasts_S1x1x1024x256_S1024x256⌝ ∗ ((rQs p j).view.loc (c : Thread nD τ) ↦[(rQs p j).view.set]{fullShare} f))
def slotS (c : Dev nD) (p : Fin 4) (j : Fin 2) (v : Vec F S1x1x1024 .f32) : sProp 𝕄 :=
  iprop(∃ f : Buf (Elt F) ((rSs p j).view.loc (c : Thread nD τ)),
    ⌜(rSs p j).view.read (Elt F) f = shapeCast S1024 v shapeCasts_S1x1x1024_S1024⌝ ∗ ((rSs p j).view.loc (c : Thread nD τ) ↦[(rSs p j).view.set]{fullShare} f))
/-- The same slots at some contents. -/
def freeQ (c : Dev nD) (p : Fin 4) (j : Fin 2) : sProp 𝕄 :=
  iprop(∃ f : Buf (Elt F) ((rQs p j).view.loc (c : Thread nD τ)), (rQs p j).view.loc (c : Thread nD τ) ↦[(rQs p j).view.set]{fullShare} f)
def freeS (c : Dev nD) (p : Fin 4) (j : Fin 2) : sProp 𝕄 :=
  iprop(∃ f : Buf (Elt F) ((rSs p j).view.loc (c : Thread nD τ)), (rSs p j).view.loc (c : Thread nD τ) ↦[(rSs p j).view.set]{fullShare} f)
/-- The slots a device sends from, at some contents. -/
def outQ (c : Dev nD) (k : Fin 3) (j : Fin 2) : sProp 𝕄 :=
  iprop(∃ f : Buf (Elt F) ((yQs k j).view.loc (c : Thread nD τ)), (yQs k j).view.loc (c : Thread nD τ) ↦[(yQs k j).view.set]{fullShare} f)
def outS (c : Dev nD) (k : Fin 3) (j : Fin 2) : sProp 𝕄 :=
  iprop(∃ f : Buf (Elt F) ((ySs k j).view.loc (c : Thread nD τ)), (ySs k j).view.loc (c : Thread nD τ) ↦[(ySs k j).view.set]{fullShare} f)

/-- The four landing slots of source `p` on device `c`. -/
def free4 (c p : Dev nD) : sProp 𝕄 :=
  iprop((freeQ c p 0 ∗ freeS c p 0) ∗ (freeQ c p 1 ∗ freeS c p 1))

/-- What comes with a duty of a cell of device `c`. The barrier's duty `i` is paid by the device `i + 1` places after `c`
    and brings that device's landing slots for `c`; the end of a transfer brings its sender the slot sent from, and the
    receiver its landing slot filled. -/
def pay (c : Dev nD) : CI → Fin 3 → sProp 𝕄
  | none, i => free4 (dst c i) c
  | some (false, false, k, j), _ => outQ c k j
  | some (false, true, k, j), _ => outS c k j
  | some (true, false, k, j), _ => slotQ c (src c k) j (tQ m (src c k) c j)
  | some (true, true, k, j), _ => slotS c (src c k) j (tS m (src c k) c j)

instance freeQ_storable (c : Dev nD) (p : Fin 4) (j : Fin 2) : BI.Storable (upEmb : UEmb _ 𝕄) (freeQ c p j) := by unfold freeQ; infer_instance
instance freeS_storable (c : Dev nD) (p : Fin 4) (j : Fin 2) : BI.Storable (upEmb : UEmb _ 𝕄) (freeS c p j) := by unfold freeS; infer_instance
instance free4_storable (c p : Dev nD) : BI.Storable (upEmb : UEmb _ 𝕄) (free4 c p) := by unfold free4; infer_instance
instance pay_storable (c : Dev nD) (i : CI) (d : Fin 3) : BI.Storable (upEmb : UEmb _ 𝕄) (pay m c i d) := by
  rcases i with _ | ⟨_ | _, _ | _, k, j⟩ <;>
    (simp only [pay]; first | unfold outQ | unfold outS | unfold slotQ | unfold slotS | skip) <;> infer_instance

/-! ## The schedule -/

/-- A function of the cells, from its values at the devices' cells. -/
def atCell {β : Type} (f : Dev nD → CI → β) (z : β) (g : GSem nD τ sig) : β := Function.extend kcell (fun ci => f ci.1 ci.2) (fun _ => z) g
theorem atCell_k {β : Type} (f : Dev nD → CI → β) (z : β) (c : Dev nD) (i : CI) : atCell f z (kcell (c, i)) = f c i :=
  kcell_inj.extend_apply (fun ci : Dev nD × CI => f ci.1 ci.2) (fun _ => z) (c, i)
theorem atCell_not {β : Type} (f : Dev nD → CI → β) (z : β) (g : GSem nD τ sig) (h : ∀ c i, kcell (c, i) ≠ g) : atCell f z g = z :=
  Function.extend_apply' _ _ _ fun ⟨ci, e⟩ => h ci.1 ci.2 e

/-- One round. -/
def Rd : Rounds.Schedule (GSem nD τ sig) (Fin 3) 𝕄 where
  duties g r := if r = 0 then atCell (fun _ i => dut i) ∅ g else ∅
  unitless _ := False
  amount g _ _ := atCell (fun _ i => amt i) 1 g
  payload g _ d := atCell (fun c i => pay m c i d) iprop(emp) g
  amount_pos g _ _ _ := by
    by_cases h : ∃ c i, kcell (c, i) = g
    · obtain ⟨c, i, rfl⟩ := h; rw [atCell_k]; exact amt_pos i
    · rw [atCell_not _ _ g fun c i e => h ⟨c, i, e⟩]; exact Nat.one_pos

instance Rd_payload_storable (g : GSem nD τ sig) (r : ℕ) (d : Fin 3) : BI.Storable (upEmb : UEmb _ 𝕄) ((Rd (F := F) m).payload g r d) := by
  show BI.Storable upEmb (atCell (fun c i => pay m c i d) iprop(emp) g)
  by_cases h : ∃ c i, kcell (c, i) = g
  · obtain ⟨c, i, rfl⟩ := h; rw [atCell_k]; infer_instance
  · rw [atCell_not _ _ g fun c i e => h ⟨c, i, e⟩]; infer_instance

section Sched
variable (c : Dev nD) (i : CI)

theorem duties_k : (Rd (F := F) m).duties (kcell (c, i)) 0 = dut i := by dsimp only [Rd]; rw [if_pos rfl]; exact atCell_k _ _ c i
theorem duties_later (g : GSem nD τ sig) : ∀ r, 1 ≤ r → (Rd (F := F) m).duties g r = ∅ := fun r hr => by dsimp only [Rd]; rw [if_neg (by omega)]
theorem amount_k (d : Fin 3) : (Rd (F := F) m).amount (kcell (c, i)) 0 d = amt i := by dsimp only [Rd]; exact atCell_k _ _ c i
theorem payload_k (d : Fin 3) : (Rd (F := F) m).payload (kcell (c, i)) 0 d = pay m c i d := by
  dsimp only [Rd]; exact atCell_k (fun c i => pay m c i d) _ c i

theorem expect_bar : (Rd (F := F) m).expect (kcell (c, none)) 0 = 3 := by
  unfold Schedule.expect Schedule.amountOf
  rw [duties_k, Finset.sum_congr rfl fun d _ => amount_k m c none d]; rfl
theorem expect_some (x : Bool × Bool × Fin 3 × Fin 2) : (Rd (F := F) m).expect (kcell (c, some x)) 0 = amt (some x) := by
  unfold Schedule.expect Schedule.amountOf
  rw [duties_k, Finset.sum_congr rfl fun d _ => amount_k m c (some x) d]
  show ∑ _ ∈ ({0} : Finset (Fin 3)), amt (some x) = _
  rw [Finset.sum_singleton]

/-- All that comes with the barrier's three units; -/
theorem rest_bar : bigSep ((Rd (F := F) m).duties (kcell (c, none)) 0 \ ∅) (fun d => (Rd (F := F) m).payload (kcell (c, none)) 0 d)
    = iprop(free4 (dst c 0) c ∗ free4 (dst c 1) c ∗ free4 (dst c 2) c) := by
  rw [Finset.sdiff_empty, duties_k, bigSep_congr fun d _ => payload_k m c none d]
  exact bigSep_univ_eq_bigSepL [0, 1, 2] (by decide) (by decide) _
/-- and with a transfer's end. -/
theorem rest_some (x : Bool × Bool × Fin 3 × Fin 2) :
    bigSep ((Rd (F := F) m).duties (kcell (c, some x)) 0 \ ∅) (fun d => (Rd (F := F) m).payload (kcell (c, some x)) 0 d) = pay m c (some x) 0 := by
  rw [Finset.sdiff_empty, duties_k, bigSep_congr fun d _ => payload_k m c (some x) d]
  exact bigSep_singleton
end Sched

/-! ## What a device owes, in the order it pays; the levels -/

def dueCells (c : Dev nD) : List (Dev nD × CI) :=
  [(aft c 1, none), (aft c 2, none), (aft c 3, none)]
    ++ ([(0, 0), (0, 1), (1, 0), (1, 1), (2, 0), (2, 1)] : List (Fin 3 × Fin 2)).flatMap fun kj =>
        [(dst c kj.1, some (true, false, kj)), (dst c kj.1, some (true, true, kj))]

def owed : List (Dev nD × CI) → CellTallies nD τ sig Unit
  | [] => 0
  | x :: l => owed l + tallyAt (kcell x) () (amt x.2)

def O₀ (c : Dev nD) : CellTallies nD τ sig Unit := owed (dueCells c)

def L (g : GSem nD τ sig) : Finset Unit := if g.1.2 = .tc then {()} else ∅
/-- The barrier at 1, what is received at 2, all else at 0. -/
def lvl : CI → ℕ
  | none => 1
  | some (true, _) => 2
  | some (false, _) => 0
def lv (g : GSem nD τ sig) (_ : Unit) : ℕ := atCell (fun _ i => lvl i) 0 g

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (i : CI) (u : Unit) : lv (kcell (c, i)) u = lvl i := atCell_k _ _ c i

theorem owed_pos {l : List (Dev nD × CI)} {g : GSem nD τ sig} {u : Unit} (h : 0 < owed l g u) : ∃ x ∈ l, g = kcell x := by
  induction l with
  | nil => exact absurd h (Nat.lt_irrefl 0)
  | cons x l ih =>
    unfold owed at h
    rw [Pi.add_apply, Finsupp.add_apply, tallyAt_apply] at h
    by_cases hx : g = kcell x ∧ u = ()
    · exact ⟨x, List.mem_cons_self, hx.1⟩
    · rw [if_neg hx] at h
      obtain ⟨y, hy, e⟩ := ih h
      exact ⟨y, List.mem_cons_of_mem _ hy, e⟩

/-- A wait on a semaphore at level `b` while all that is owed lies above `b`. -/
theorem mayWait (c : Dev nD) (sm : SemLoc sig) (b : ℕ) (hsm : lv ((c : Thread nD τ), sm) () ≤ b) (l : List (Dev nD × CI)) (hl : ∀ x ∈ l, b < lvl x.2) :
    (levAts L lv : sProp 𝕄) ⊢ MayWait (c : Thread nD τ) sm () (owed l) :=
  MayOwe.of_cut (L := L) (lev := lv) b (fun p hp => by rw [Finset.mem_singleton.mp hp, L_tc]; exact Finset.mem_singleton_self _)
    (fun g u hg => by obtain ⟨x, hx, rfl⟩ := owed_pos hg; rw [L_tc]; exact Finset.mem_singleton_self _)
    (fun p hp => by rw [Finset.mem_singleton.mp hp]; exact hsm)
    (fun g u hg => by obtain ⟨⟨d, i⟩, hx, rfl⟩ := owed_pos hg; rw [lv_k]; exact hl _ hx)

/-- A device's own semaphores that no other device touches. -/
abbrev LI : Type := Fin 6 ⊕ (Bool × Fin 2)
def lsem (c : Dev nD) : LI → SemLoc sig
  | .inl 0 => .dma cc0_scratch7.sem
  | .inl 1 => .dma (wSem 0).sem
  | .inl 2 => .dma (wSem 1).sem
  | .inl 3 => .dma (oSem 0).sem
  | .inl 4 => .dma (oSem 1).sem
  | .inl 5 => .dma (oSem 2).sem
  | .inr (false, j) => .dma (vQs c j).sem
  | .inr (true, j) => .dma (vSs c j).sem

theorem lsem_ne (c : Dev nD) : ∀ (x : LI) (i : CI), csem c i ≠ lsem c x := by
  revert c; decide +kernel
theorem stg_ne (c : Dev nD) : ∀ (w : Fin 2) (s : Fin (spec0 w).nbuf) (i : CI), csem c i ≠ .dma ((spec0 w).sem s) := by
  revert c; decide +kernel

theorem lv_not (c : Dev nD) (sm : SemLoc sig) (h : ∀ i, csem c i ≠ sm) : lv ((c : Thread nD τ), sm) () = 0 :=
  atCell_not _ _ _ fun c' i e => by
    have h1 : c' = c := by have := congrArg (fun g : GSem nD τ sig => g.1.1) e; exact this
    subst h1; exact h i (congrArg Prod.snd e)

end Cert.KernelIdeal.A2A

end
-- ==== Proof.Local.lean ====
/- What a device does by itself, one rule per step: the copies of the operand, of the weights and of the result, the
   stores into the staging slots. -/
module

public import proofs.«01_k».proof.Proof.Sched
public import Idealize.ShloMosaic.Lib.Pipeline.Value
public import Idealize.ShloMosaic.Lib.Transfers

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Named F]

local notation "𝕄" => MT nD τ sig Unit (Elt F) ℕ UU ℕ

abbrev 𝒱₀ : Variants := Variants.none

variable (m : (ℓ : Loc nD τ sig) → Buf (Elt F) ℓ)

/-- The program `P` of device `c` ends in `Q`. -/
abbrev WP (c : Dev nD) (P : Pg F) (Q : PUnit → sProp 𝕄) : sProp 𝕄 := wp frame (wpE (defs₀ (F := F)) 𝒱₀ (c : Thread nD τ) none) Set.univ P Q

/-- Device `c` owes what is on the list, whatever it waited on. -/
def ow (c : Dev nD) (l : List (Dev nD × CI)) : sProp 𝕄 := iprop(∃ W, owes (c : Thread nD τ) (owed l) W)

abbrev EC : UEmb Counters 𝕄 := countersEmb (U := UU)

/-! ## Points-to facts -/

abbrev cpts {sp : Space} {s : Shape} {e : EltTy} (c : Dev nD) (M : Memref sig .tc sp s e) (f : Buf (Elt F) (M.view.loc (c : Thread nD τ))) : sProp 𝕄 :=
  iprop(M.view.loc (c : Thread nD τ) ↦[M.view.set]{fullShare} f)
/-- A view's elements at some contents; and at contents read through it as `v`. -/
def some' {sp : Space} {s : Shape} {e : EltTy} (c : Dev nD) (M : Memref sig .tc sp s e) : sProp 𝕄 := iprop(∃ f, cpts c M f)
def holds {sp : Space} {s : Shape} {e : EltTy} (c : Dev nD) (M : Memref sig .tc sp s e) (v : s.Idx → Elt F e) : sProp 𝕄 :=
  iprop(∃ f, ⌜M.view.read (Elt F) f = v⌝ ∗ cpts c M f)

theorem holds_some {sp : Space} {s : Shape} {e : EltTy} (c : Dev nD) (M : Memref sig .tc sp s e) (v : s.Idx → Elt F e) : (holds c M v : sProp 𝕄) ⊢ some' c M := by
  unfold holds some'
  iintro ⟨%f, -, H⟩; iexists f; iexact H

/-! ## A copy of a device's own -/

/-- A copy under way from `S`, of which the device holds the share `q`, to `D`: at its end `D` holds what was read of `S`. -/
def fl {sp sp' : Space} {s : Shape} {e : EltTy} (c : Dev nD) (q : PosShare TreeShare) (S : Memref sig .tc sp s e) (D : Memref sig .tc sp' s e)
    (sm : SemLoc sig) (fs : Buf (Elt F) (S.view.loc (c : Thread nD τ))) : sProp 𝕄 :=
  Flight EC (c : Thread nD τ) sm () (D.view.amount sm) iprop(holds c D (S.view.read (Elt F) fs) ∗ (S.view.loc (c : Thread nD τ) ↦[S.view.set]{q} fs))

theorem wp_copy {sp sp' : Space} {s : Shape} {e : EltTy} (c : Dev nD) (q : PosShare TreeShare) (S : Memref sig .tc sp s e) (D : Memref sig .tc sp' s e)
    (sm : SemLoc sig) (fs : Buf (Elt F) (S.view.loc (c : Thread nD τ))) (h0 : 0 < D.view.amount sm)
    {hS : S.view.WordExact} {hD : D.view.WordExact} {hs : (DmaTarget.here D : DmaTarget nD τ sig .tc sp' s e).Typed sp sm} (K : Pg F) (Q : PUnit → sProp 𝕄) :
    iprop((S.view.loc (c : Thread nD τ) ↦[S.view.set]{q} fs) ∗ some' c D ∗ semVal ((c : Thread nD τ), sm) 0)
      ⊢ iprop((fl c q S D sm fs -∗ WP c K Q) -∗ WP c (.op (.enqueueDma S (.here D) sm hS hD hs) fun _ => K) Q) := by
  unfold some' fl
  iintro ⟨Hs, ⟨%fd, Hd⟩, Hv⟩ Hk
  iapply (wp_dmaLocal EC 𝒱₀ (c : Thread nD τ) none () _ rfl h0 subset_rfl) $$ [Hs Hd Hv]
  · isplitl [Hs]; · iexact Hs
    isplitl [Hd] <;> iassumption
  iintro Hf
  iapply Hk
  iapply (Flight_mono EC (c : Thread nD τ) ?_) $$ Hf
  unfold holds
  iintro ⟨Hd, Hs⟩
  isplitl [Hd]
  · iexists (D.view.write (Elt F) fd (S.view.read (Elt F) fs) Finset.univ)
    isplitr
    · ipureintro; exact View.read_write_univ _ _
    iexact Hd
  iexact Hs

theorem wp_copied {sp sp' spw : Space} {s sw : Shape} {e ew : EltTy} (c : Dev nD) (q : PosShare TreeShare) (S : Memref sig .tc sp s e) (D : Memref sig .tc sp' s e)
    (Sw : Memref sig .tc spw sw ew)
    (sm : DmaSem sig) (fs : Buf (Elt F) (S.view.loc (c : Thread nD τ))) (l : List (Dev nD × CI)) (hl : ∀ x ∈ l, 0 < lvl x.2) (hsm : lv ((c : Thread nD τ), .dma sm) () = 0)
    {hS : Sw.view.WordExact} {hD : D.view.WordExact} (K : Pg F) (Q : PUnit → sProp 𝕄) :
    iprop(levAts L lv ∗ fl c q S D (.dma sm) fs ∗ ow c l)
      ⊢ iprop((iprop(holds c D (S.view.read (Elt F) fs) ∗ (S.view.loc (c : Thread nD τ) ↦[S.view.set]{q} fs) ∗ semVal ((c : Thread nD τ), .dma sm) 0 ∗ ow c l) -∗ WP c K Q)
          -∗ WP c (.op (.waitDma2 sm Sw D hS hD) fun _ => K) Q) := by
  unfold ow fl
  iintro ⟨#Hl, Hf, ⟨%W, HO⟩⟩ Hk
  iapply (wp_waitLocalO EC 𝒱₀ (c : Thread nD τ) none () rfl) $$ [Hf HO]
  · isplitl [Hf]; · iexact Hf
    isplitl [HO]; · iexact HO
    iapply (mayWait c (.dma sm) 0 (le_of_eq hsm) l hl); iexact Hl
  iintro ⟨⟨Hd, Hs⟩, Hv, HO⟩
  iapply Hk
  isplitl [Hd]; · iexact Hd
  isplitl [Hs]; · iexact Hs
  isplitl [Hv]; · iexact Hv
  iexists _; iexact HO

/-! ## The weights -/

/-- The weights of device `c` at the share `q`. -/
abbrev wts (c : Dev nD) (q : PosShare TreeShare) : sProp 𝕄 := iprop(((c : Thread nD τ).loc main_arg1) ↦{q} (m ((c : Thread nD τ).loc main_arg1)))

/-- A copy of 256 columns under way, and the rest of the weights. -/
def wfl (c : Dev nD) (q : PosShare TreeShare) (o : Fin 2 → ℕ) (h : ∀ a, o a + S4096x256.size a ≤ S4096x2048.size a) (b : Fin 2) : sProp 𝕄 :=
  iprop(fl c q (wSrc o h) (wSlot b) (.dma (wSem b).sem) (m ((c : Thread nD τ).loc main_arg1))
    ∗ (((c : Thread nD τ).loc main_arg1) ↦[Finset.univ \ (wSrc o h).view.set]{q} (m ((c : Thread nD τ).loc main_arg1))))

theorem pos_w (b : Fin 2) : 0 < (wSlot b).view.amount (.dma (wSem b).sem) := View.dmaCredit_pos _ (by decide)
theorem lv_w (c : Dev nD) (b : Fin 2) : lv ((c : Thread nD τ), .dma (wSem b).sem) () = 0 := by
  fin_cases b
  · exact lv_not c _ fun i => lsem_ne c (.inl 1) i
  · exact lv_not c _ fun i => lsem_ne c (.inl 2) i

theorem wp_wStart (c : Dev nD) (q : PosShare TreeShare) (o : Fin 2 → ℕ) (h : ∀ a, o a + S4096x256.size a ≤ S4096x2048.size a) (b : Fin 2)
    (K : Pg F) (Q : PUnit → sProp 𝕄) :
    iprop(wts m c q ∗ some' c (wSlot b) ∗ semVal ((c : Thread nD τ), .dma (wSem b).sem) 0)
      ⊢ iprop((wfl m c q o h b -∗ WP c K Q) -∗ WP c (wStart o h b K) Q) := by
  unfold wfl wStart
  iintro ⟨Hw, Hd, Hv⟩ Hk
  ihave H := (pointsTo_split_subset (Finset.subset_univ (wSrc o h).view.set)).1 $$ Hw
  icases H with ⟨Hs, Hr⟩
  iapply (wp_copy c q (wSrc o h) (wSlot b) (.dma (wSem b).sem) _ (pos_w b)) $$ [Hs Hd Hv]
  · isplitl [Hs]; · iexact Hs
    isplitl [Hd] <;> iassumption
  iintro Hf
  iapply Hk
  isplitl [Hf] <;> iassumption

theorem cast_cancel {s t : Shape} {α : Type} (f : s.Idx → α) (g : t.Idx → α) (h : Shape.ShapeCasts s t) (h' : Shape.ShapeCasts t s)
    (e : shapeCast t f h = g) : f = shapeCast s g h' := by
  rw [← e, shapeCast_shapeCast]

theorem scWfwd : S1x4096x256.ShapeCasts S4096x256 := by unfold Shape.ShapeCasts; decide
theorem scWbwd : S4096x256.ShapeCasts S1x4096x256 := by unfold Shape.ShapeCasts; decide

theorem wp_wWait (c : Dev nD) (q : PosShare TreeShare) (o : Fin 2 → ℕ) (h : ∀ a, o a + S4096x256.size a ≤ S4096x2048.size a) (b : Fin 2)
    (l : List (Dev nD × CI)) (hl : ∀ x ∈ l, 0 < lvl x.2) (r : Fin 4) (j : Fin 2) (ho : o = ![0, 512 * r.val + 256 * j.val])
    (K : Vec F S1x4096x256 .f32 → Pg F) (Q : PUnit → sProp 𝕄) :
    iprop(levAts L lv ∗ wfl m c q o h b ∗ ow c l)
      ⊢ iprop((iprop(wts m c q ∗ some' c (wSlot b) ∗ semVal ((c : Thread nD τ), .dma (wSem b).sem) 0 ∗ ow c l) -∗ WP c (K (vW m c r j)) Q)
          -∗ WP c (wWait o h b K) Q) := by
  subst ho
  unfold wfl wWait
  iintro ⟨#Hl, ⟨Hf, Hr⟩, HO⟩ Hk
  iapply (wp_copied c q (wSrc _ h) (wSlot b) (wSrc _ h) (wSem b).sem _ l hl (lv_w c b)) $$ [Hf HO]
  · isplitr; · iexact Hl
    isplitl [Hf] <;> iassumption
  iintro ⟨Hd, Hs, Hv, HO⟩
  unfold holds
  icases Hd with ⟨%f, %hf, Hd⟩
  iapply (wp_load 𝒱₀ (c : Thread nD τ) none Set.univ (m := wB) (S := (wSlot b).view.set) (by rw [View.set_reshape, View.set_slice]; exact subset_rfl)) $$ Hd
  iintro Hd
  rw [show (wB.view.readAt (Elt F) (wR b).toLoadRect f : Vec F S1x4096x256 .f32) = vW m c r j from
    cast_cancel (t := S4096x256) _ _ scWfwd scWbwd hf]
  iapply Hk
  isplitl [Hs Hr]
  · iapply (pointsTo_split_subset (Finset.subset_univ (wSrc _ h).view.set)).2
    isplitl [Hs] <;> iassumption
  isplitl [Hd]
  · unfold some'; iexists f; iexact Hd
  isplitl [Hv] <;> iassumption

/-! ## The staging slots and the result -/

/-- The place of row `r`, column `k` of a half. -/
def hix (r : Fin 1024) (k : Fin 256) : S1x1024x256.Idx := fun a => match a with
  | ⟨0, _⟩ => ⟨0, Nat.one_pos⟩
  | ⟨1, _⟩ => r
  | ⟨2, _⟩ => k
/-- Two halves of 256 columns side by side. -/
def both (v₀ v₁ : Vec F S1x1024x256 .f32) : Vec F S1024x512 .f32 := fun x =>
  if h : (x (1 : Fin 2)).val < 256 then v₀ (hix (x (0 : Fin 2)) ⟨_, h⟩) else v₁ (hix (x (0 : Fin 2)) ⟨(x (1 : Fin 2)).val - 256, by have : (x (1 : Fin 2)).val < 512 := (x (1 : Fin 2)).isLt; omega⟩)

/-- The staging slot `g` with its first half stored. -/
def half (c : Dev nD) (g : Fin 3) (v : Vec F S1x1024x256 .f32) : sProp 𝕄 :=
  iprop(∃ f, ⌜(st.access (tH g 0)).read (Elt F) f = v⌝ ∗ cpts c (tSlot g) f)

theorem tH_set (g : Fin 3) (j : Fin 2) : (st.access (tH g j)).set = (tH g j).set := View.set_slice_whole _ _

theorem tSlot_set (g : Fin 3) : (tSlot g).view.set = (Rect.unit (s := S3x1024x512) ![g.val, 0, 0] S1x1024x512.size (inbT g)).set :=
  (View.set_reshape _ _).trans (View.set_slice_whole _ _)

theorem tH_subset (g : Fin 3) (j : Fin 2) : (st.access (tH g j)).set ⊆ (tSlot g).view.set := by
  rw [tH_set, tSlot_set]
  intro i hi
  rw [Rect.mem_set_unit] at hi ⊢
  have h0 := hi 0; have h1 := hi 1; have h2 := hi 2
  have hj := j.isLt
  intro a
  match a with
  | ⟨0, _⟩ => exact h0
  | ⟨1, _⟩ => exact h1
  | ⟨2, _⟩ =>
    constructor
    · exact Nat.zero_le _
    · exact lt_of_lt_of_le h2.2 (show 256 * j.val + 256 ≤ 0 + 512 by omega)

theorem tH_disj (g : Fin 3) {i : S3x1024x512.Idx} (h0 : i ∈ (st.access (tH g 0)).set) (h1 : i ∈ (st.access (tH g 1)).set) : False := by
  rw [tH_set, Rect.mem_set_unit] at h0 h1
  have a0 := (h0 2).2; have a1 := (h1 2).1
  exact absurd (lt_of_le_of_lt a1 a0) (by show ¬ (256 * 1 < 256 * 0 + 256); decide)

theorem read_both (g : Fin 3) (f : (cc0_scratch6 : Ref sig .tc).ty.Contents (Elt F)) (v₀ v₁ : Vec F S1x1024x256 .f32)
    (h0 : (st.access (tH g 0)).read (Elt F) f = v₀) (h1 : (st.access (tH g 1)).read (Elt F) f = v₁) : (tSlot g).view.read (Elt F) f = both v₀ v₁ := by
  funext x
  have e : (tSlot g).view.read (Elt F) f x = f ((Rect.unit (s := S3x1024x512) ![g.val, 0, 0] S1x1024x512.size (inbT g)).emb (Fin.cons ⟨0, Nat.one_pos⟩ x)) :=
    shapeCast_dropUnit_apply (n := 2) ![1024, 512] (st.view.readAt (Elt F) (Rect.unit (s := S3x1024x512) ![g.val, 0, 0] S1x1024x512.size (inbT g)).toLoadRect f)
      squeezes_S1x1024x512_S1024x512.numel_eq x
  rw [e]
  have hx : (x (1 : Fin 2)).val < 512 := (x (1 : Fin 2)).isLt
  unfold both
  split
  next h =>
    rw [← h0]
    show _ = f ((tH g 0).emb _)
    refine congrArg f (funext fun a => Fin.ext ?_)
    match a with
    | ⟨0, _⟩ => rfl
    | ⟨1, _⟩ => rfl
    | ⟨2, _⟩ => rfl
  next h =>
    rw [← h1]
    show _ = f ((tH g 1).emb _)
    refine congrArg f (funext fun a => Fin.ext ?_)
    match a with
    | ⟨0, _⟩ => rfl
    | ⟨1, _⟩ => rfl
    | ⟨2, _⟩ =>
      show 0 + 1 * (x (1 : Fin 2)).val = 256 * 1 + 1 * ((x (1 : Fin 2)).val - 256)
      omega

theorem wp_tPut0 (c : Dev nD) (g : Fin 3) (v : FVec F S1x1024x256 .f32) (K : Pg F) (Q : PUnit → sProp 𝕄) :
    some' c (tSlot g) ⊢ iprop((half c g v -∗ WP c K Q) -∗ WP c (tPut g 0 v K) Q) := by
  unfold some' half tPut
  iintro ⟨%f, H⟩ Hk
  iapply (wp_load_rect 𝒱₀ (c : Thread nD τ) none Set.univ (m := st) (r := tH g 0) (S := (tSlot g).view.set) (tH_subset g 0)) $$ H
  iintro H
  iapply (wp_store 𝒱₀ (c : Thread nD τ) none Set.univ (m := st) (r := tH g 0) (Mk := Finset.univ) (S := (tSlot g).view.set) (tH_subset g 0)) $$ H
  iintro H
  iapply Hk
  iexists ((st.access (tH g 0)).write (Elt F) f v Finset.univ)
  isplitr
  · ipureintro; exact View.read_write_univ _ _
  iexact H

theorem wp_tPut1 (c : Dev nD) (g : Fin 3) (v₀ : Vec F S1x1024x256 .f32) (v : FVec F S1x1024x256 .f32) (K : Pg F) (Q : PUnit → sProp 𝕄) :
    half c g v₀ ⊢ iprop((holds c (tSlot g) (both v₀ v) -∗ WP c K Q) -∗ WP c (tPut g 1 v K) Q) := by
  unfold holds half tPut
  iintro ⟨%f, %hf, H⟩ Hk
  iapply (wp_load_rect 𝒱₀ (c : Thread nD τ) none Set.univ (m := st) (r := tH g 1) (S := (tSlot g).view.set) (tH_subset g 1)) $$ H
  iintro H
  iapply (wp_store 𝒱₀ (c : Thread nD τ) none Set.univ (m := st) (r := tH g 1) (Mk := Finset.univ) (S := (tSlot g).view.set) (tH_subset g 1)) $$ H
  iintro H
  iapply Hk
  iexists ((st.access (tH g 1)).write (Elt F) f v Finset.univ)
  isplitr
  · ipureintro
    refine read_both g _ v₀ v ?_ (View.read_write_univ _ _)
    rw [← hf]
    exact View.read_congr fun i hi => View.write_of_not_mem _ _ _ fun h => tH_disj g hi h
  iexact H

theorem lv_o (c : Dev nD) (g : Fin 3) : lv ((c : Thread nD τ), .dma (oSem g).sem) () = 0 := by
  fin_cases g
  · exact lv_not c _ fun i => lsem_ne c (.inl 3) i
  · exact lv_not c _ fun i => lsem_ne c (.inl 4) i
  · exact lv_not c _ fun i => lsem_ne c (.inl 5) i

/-- The copy of the staging slot `g` into the result's rows under way. -/
def ofl (c : Dev nD) (g : Fin 3) (o : Fin 2 → ℕ) (h : ∀ a, o a + S1024x512.size a ≤ S4096x512.size a) (v : Vec F S1024x512 .f32) : sProp 𝕄 :=
  iprop(∃ f, ⌜(tSlot g).view.read (Elt F) f = v⌝ ∗ fl c fullShare (tSlot g) (oRow o h) (.dma (oSem g).sem) f)

theorem wp_oStart (c : Dev nD) (g : Fin 3) (o : Fin 2 → ℕ) (h : ∀ a, o a + S1024x512.size a ≤ S4096x512.size a) (v : Vec F S1024x512 .f32)
    (K : Pg F) (Q : PUnit → sProp 𝕄) :
    iprop(holds c (tSlot g) v ∗ some' c (oRow o h) ∗ semVal ((c : Thread nD τ), .dma (oSem g).sem) 0)
      ⊢ iprop((ofl c g o h v -∗ WP c K Q) -∗ WP c (oStart g o h K) Q) := by
  unfold holds ofl oStart
  iintro ⟨⟨%f, %hf, Hs⟩, Hd, Hv⟩ Hk
  iapply (wp_copy c fullShare (tSlot g) (oRow o h) (.dma (oSem g).sem) f (View.dmaCredit_pos _ (by decide))) $$ [Hs Hd Hv]
  · isplitl [Hs]; · iexact Hs
    isplitl [Hd] <;> iassumption
  iintro Hf
  iapply Hk
  iexists f
  isplitr
  · ipureintro; exact hf
  iexact Hf

theorem wp_oWait (c : Dev nD) (g : Fin 3) (o : Fin 2 → ℕ) (h : ∀ a, o a + S1024x512.size a ≤ S4096x512.size a) (v : Vec F S1024x512 .f32)
    (l : List (Dev nD × CI)) (hl : ∀ x ∈ l, 0 < lvl x.2) (K : Pg F) (Q : PUnit → sProp 𝕄) :
    iprop(levAts L lv ∗ ofl c g o h v ∗ ow c l)
      ⊢ iprop((iprop(holds c (oRow o h) v ∗ some' c (tSlot g) ∗ semVal ((c : Thread nD τ), .dma (oSem g).sem) 0 ∗ ow c l) -∗ WP c K Q) -∗ WP c (oWait g o h K) Q) := by
  unfold ofl oWait
  iintro ⟨#Hl, ⟨%f, %hf, Hf⟩, HO⟩ Hk
  iapply (wp_copied c fullShare (tSlot g) (oRow o h) (tSlot g) (oSem g).sem f l hl (lv_o c g)) $$ [Hf HO]
  · isplitr; · iexact Hl
    isplitl [Hf] <;> iassumption
  iintro ⟨Hd, Hs, Hv, HO⟩
  subst hf
  iapply Hk
  isplitl [Hd]; · iexact Hd
  isplitl [Hs]
  · unfold some'; iexists f; iexact Hs
  isplitl [Hv] <;> iassumption

end Cert.KernelIdeal.A2A

end
-- ==== Proof.Talk.lean ====
/- What a device does with the others, one rule per step: the barrier's signals and its wait, a block stored and sent, a
   block received, a block read. -/
module

public import proofs.«01_k».proof.Proof.Local

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Named F]

local notation "𝕄" => MT nD τ sig Unit (Elt F) ℕ UU ℕ

variable (m : (ℓ : Loc nD τ sig) → Buf (Elt F) ℓ) (K : Dev nD × CI → ℕ)

/-- What all devices know of a cell: its schedule, and that it stands at its only round. -/
def recd (ci : Dev nD × CI) : sProp 𝕄 := iprop(cellInv ER (Rd m) (K ci) (kcell ci) ∗ reached ER (kcell ci) 0)
/-- What all devices know of all cells. -/
def records : sProp 𝕄 := bigSep Finset.univ fun ci : Dev nD × CI => recd m K ci

instance recd_persistent (ci : Dev nD × CI) : BI.Persistent (recd m K ci) := by unfold recd; infer_instance
instance records_persistent : BI.Persistent (records m K) := by unfold records; infer_instance

theorem records_at (c : Dev nD) (i : CI) : records m K ⊢ iprop(cellInv ER (Rd m) (K (c, i)) (kcell (c, i)) ∗ reached ER (kcell (c, i)) 0) := by
  unfold records
  exact (bigSep_elim (Finset.mem_univ (c, i))).trans (by unfold recd; exact Entails.refl _)

/-! ## The barrier -/

/-- Device `c` signals the device `i + 1` places after it, handing over its own landing slots for that device. -/
theorem wp_sig (c : Dev nD) (i : Fin 3) (p : Dev nD) (hp : p = dst c i) (l : List (Dev nD × CI)) (P : Pg F) (Q : PUnit → sProp 𝕄) :
    iprop(records m K ∗ ow c ((dst c i, none) :: l) ∗ dutyTok ER (kcell (dst c i, none)) 0 (Fin.rev i) ∗ free4 c (dst c i))
      ⊢ iprop((ow c l -∗ WP c P Q) -∗ WP c (.op (.semSignal (Dev.tc p) barS 1) fun _ => P) Q) := by
  subst hp
  unfold ow
  iintro ⟨#HR, ⟨%W, HO⟩, Ht, Hp⟩ Hk
  ihave #Hc := (records_at m K (dst c i) none) $$ HR
  icases Hc with ⟨#HI, #Hr⟩
  iapply (Rounds.wp_signal 𝒱₀ ER (Rd m) (c : Thread nD τ) none (dst := (dst c i : Thread nD τ)) (κ := K (dst c i, none))
      (d := Fin.rev i) (k' := 1) (by rw [show ((dst c i : Thread nD τ), SemLoc.reg barS) = kcell (dst c i, none) from rfl, duties_k]; exact Finset.mem_univ _)
      (amount_k m (dst c i) none (Fin.rev i)) () (owed l) rfl)
    $$ [HO Ht Hp]
  · isplitr; · iexact HI
    isplitl [HO]; · iexact HO
    isplitl [Ht]; · iexact Ht
    isplitl [Hp]
    · iapply (Entails.of_eq (show free4 c (dst c i) = (Rd (F := F) m).payload ((dst c i : Thread nD τ), SemLoc.reg barS) 0 (Fin.rev i) by
        refine Eq.trans ?_ (payload_k m (dst c i) none (Fin.rev i)).symm
        show free4 c (dst c i) = free4 (dst (dst c i) (Fin.rev i)) (dst c i)
        rw [show dst (dst c i) (Fin.rev i) = c by revert c i; decide]))
      iexact Hp
    · iexact Hr
  iintro HO
  iapply Hk
  iexists W; iexact HO

/-- Device `c` waits for the three others, and holds its landing slots on each. -/
theorem wp_bar (c : Dev nD) (l : List (Dev nD × CI)) (hl : ∀ x ∈ l, 1 < lvl x.2) (P : Pg F) (Q : PUnit → sProp 𝕄) :
    iprop(records m K ∗ levAts L lv ∗ ow c l ∗ cred (tallyAt (kcell (c, none)) () 3) ∗ atPos ER (kcell (c, none)) 0 ∅ 0)
      ⊢ iprop((iprop(ow c l ∗ semVal (kcell (c, none)) 0 ∗ free4 (dst c 0) c ∗ free4 (dst c 1) c ∗ free4 (dst c 2) c) -∗ WP c P Q)
          -∗ WP c (.op (.semWait barS 3) fun _ => P) Q) := by
  unfold ow
  iintro ⟨#HR, #HL, ⟨%W, HO⟩, Hc, Ha⟩ Hk
  ihave #Hi := (records_at m K c none) $$ HR
  icases Hi with ⟨#HI, #Hr⟩
  iapply (Rounds.wp_wait_rest_token 𝒱₀ ER (Rd m) (c : Thread nD τ) none (κ := K (c, none))
      (wpE_semWait_eq 𝒱₀ (c : Thread nD τ) none Set.univ) (Set.mem_univ _) () (O := owed l) (W := W) (R := 0) (m := 0) (T := ∅)
      ((Nat.zero_add 3).trans (expect_bar m c).symm)) $$ [Hc HO Ha]
  · isplitr; · iexact HI
    isplitl [Hc]; · iexact Hc
    isplitl [HO]; · iexact HO
    isplitr
    · iapply (mayWait c (.reg barS) 1 (le_of_eq (lv_k c none ())) l hl); iexact HL
    iexact Ha
  iintro ⟨HO, Ha, -, Hp⟩
  have hr : bigSep ((Rd (F := F) m).duties ((c : Thread nD τ), SemLoc.reg barS) 0 \ ∅) (fun d => (Rd (F := F) m).payload ((c : Thread nD τ), SemLoc.reg barS) 0 d)
      = iprop(free4 (dst c 0) c ∗ free4 (dst c 1) c ∗ free4 (dst c 2) c) := rest_bar m c
  ihave Hp := (Entails.of_eq hr) $$ Hp
  imod (Rounds.cell_close ER (Rd m) (Set.mem_univ (K (c, none))) (fun h => h) (R := 0 + 1) (duties_later m (kcell (c, none)))) $$ [Ha] with Hz
  · isplitr; · iexact HI
    iexact Ha
  iapply Hk
  isplitl [HO]; · iexists _; iexact HO
  isplitl [Hz]; · iexact Hz
  iexact Hp

/-! ## A wait on a cell of a transfer -/

/-- Device `c` waits for the end of a transfer on one of its cells: the cell's payload, and the cell closed. -/
theorem wp_end (c : Dev nD) (x : Bool × Bool × Fin 3 × Fin 2) {sp sp' : Space} {s s' : Shape} {e e' : EltTy} (sem : DmaSem sig) (hsem : csem c (some x) = .dma sem)
    (Sw : Memref sig .tc sp s e) (D : Memref sig .tc sp' s' e') (hN : D.view.dmaCredit = amt (some x))
    (l : List (Dev nD × CI)) (hl : ∀ y ∈ l, lvl (some x) < lvl y.2)
    {hS : Sw.view.WordExact} {hD : D.view.WordExact} (P : Pg F) (Q : PUnit → sProp 𝕄) :
    iprop(records m K ∗ levAts L lv ∗ ow c l ∗ cred (tallyAt (kcell (c, some x)) () (amt (some x))) ∗ atPos ER (kcell (c, some x)) 0 ∅ 0)
      ⊢ iprop((iprop(ow c l ∗ semVal (kcell (c, some x)) 0 ∗ pay m c (some x) 0) -∗ WP c P Q)
          -∗ WP c (.op (.waitDma2 sem Sw D hS hD) fun _ => P) Q) := by
  have hk : kcell (c, some x) = ((c : Thread nD τ), SemLoc.dma sem) := by show (_, csem c (some x)) = _; rw [hsem]
  unfold ow
  iintro ⟨#HR, #HL, ⟨%W, HO⟩, Hc, Ha⟩ Hk
  ihave #Hi := (records_at m K c (some x)) $$ HR
  icases Hi with ⟨#HI, #Hr⟩
  ihave #HM := (mayWait c (.dma sem) (lvl (some x)) (le_of_eq (by rw [← hk]; exact lv_k c (some x) ())) l hl) $$ HL
  have hE : 0 + D.view.dmaCredit = (Rd (F := F) m).expect ((c : Thread nD τ), SemLoc.dma sem) 0 := by
    rw [Nat.zero_add, hN, ← hk, expect_some]
  have hr := rest_some m c x
  rw [hk] at hr ⊢
  rw [← hN]
  iapply (Rounds.wp_wait_rest_token 𝒱₀ ER (Rd m) (c : Thread nD τ) none (κ := K (c, some x))
      (wpE_waitDma2_eq 𝒱₀ (c : Thread nD τ) none Set.univ) (Set.mem_univ _) () (O := owed l) (W := W) (R := 0) (m := 0) (T := ∅)
      hE) $$ [Hc HO Ha]
  · isplitr; · iexact HI
    isplitl [Hc]; · iexact Hc
    isplitl [HO]; · iexact HO
    isplitr; · iexact HM
    iexact Ha
  iintro ⟨HO, Ha, -, Hp⟩
  ihave Hp := (Entails.of_eq hr) $$ Hp
  imod (Rounds.cell_close ER (Rd m) (Set.mem_univ (K (c, some x))) (fun h => h) (R := 0 + 1) (duties_later m ((c : Thread nD τ), SemLoc.dma sem))) $$ [Ha] with Hz
  · isplitr; · iexact HI
    iexact Ha
  iapply Hk
  isplitl [HO]; · iexists _; iexact HO
  isplitl [Hz]; · iexact Hz
  iexact Hp

/-! ## A block sent -/

theorem yQ_set (k : Fin 3) (j : Fin 2) : (yQ.access (yQR k j)).set ⊆ (yQs k j).view.set := by rw [View.set_reshape]
theorem yS_set (k : Fin 3) (j : Fin 2) : (yS.access (ySR k j)).set ⊆ (ySs k j).view.set := by rw [View.set_reshape]

theorem cell_recvQ (c : Dev nD) (k : Fin 3) (j : Fin 2) : kcell (dst c k, some (true, false, k, j)) = ((dst c k : Thread nD τ), SemLoc.dma (vQs c j).sem) := by
  show (_, csem (dst c k) (some (true, false, k, j))) = _; unfold csem; dsimp only; rw [src_dst]
theorem cell_recvS (c : Dev nD) (k : Fin 3) (j : Fin 2) : kcell (dst c k, some (true, true, k, j)) = ((dst c k : Thread nD τ), SemLoc.dma (vSs c j).sem) := by
  show (_, csem (dst c k) (some (true, true, k, j))) = _; unfold csem; dsimp only; rw [src_dst]
theorem pay_recvQ (c : Dev nD) (k : Fin 3) (j : Fin 2) : pay m (dst c k) (some (true, false, k, j)) 0 = slotQ (dst c k) c j (tQ m c (dst c k) j) := by
  unfold pay; dsimp only; rw [src_dst]
theorem pay_recvS (c : Dev nD) (k : Fin 3) (j : Fin 2) : pay m (dst c k) (some (true, true, k, j)) 0 = slotS (dst c k) c j (tS m c (dst c k) j) := by
  unfold pay; dsimp only; rw [src_dst]

/-- The tokens with which device `c` sends half `j` of step `k`. -/
def toks (c : Dev nD) (k : Fin 3) (j : Fin 2) : sProp 𝕄 :=
  iprop((dutyTok ER (kcell (c, some (false, false, k, j))) 0 (0 : Fin 3) ∗ dutyTok ER (kcell (dst c k, some (true, false, k, j))) 0 (0 : Fin 3))
    ∗ (dutyTok ER (kcell (c, some (false, true, k, j))) 0 (0 : Fin 3) ∗ dutyTok ER (kcell (dst c k, some (true, true, k, j))) 0 (0 : Fin 3)))
/-- The credit for the end of its two transfers. -/
def credS (c : Dev nD) (k : Fin 3) (j : Fin 2) : sProp 𝕄 :=
  iprop(cred (tallyAt (kcell (c, some (false, false, k, j))) () NQ) ∗ cred (tallyAt (kcell (c, some (false, true, k, j))) () NS))

theorem wp_sendQ (c : Dev nD) (k : Fin 3) (j : Fin 2) (f : Buf (Elt F) ((yQs k j).view.loc (c : Thread nD τ)))
    (hf : (yQs k j).view.read (Elt F) f = shapeCast S1024x256 (tQ m c (dst c k) j) shapeCasts_S1x1x1024x256_S1024x256)
    (p : Dev nD) (hp : p = dst c k) (o : Fin 4 → ℕ) (h : ∀ a, o a + S1x1x1024x256.size a ≤ S4x2x1024x256.size a)
    (hw : (Rect.unit (s := S4x2x1024x256) o S1x1x1024x256.size h).WholeWords (EltTy.packing .i8)) (ho : o = ![c.val, j.val, 0, 0])
    (o' : Fin 2 → ℕ) (h' : ∀ a, o' a + S1x1.size a ≤ S4x2.size a) (ho' : o' = ![c.val, j.val]) (l : List (Dev nD × CI)) (P : Pg F) (Q : PUnit → sProp 𝕄) :
    iprop(records m K ∗ ow c ((dst c k, some (true, false, k, j)) :: l) ∗ cpts c (yQs k j) f ∗ freeQ (dst c k) c j
        ∗ dutyTok ER (kcell (c, some (false, false, k, j))) 0 (0 : Fin 3) ∗ dutyTok ER (kcell (dst c k, some (true, false, k, j))) 0 (0 : Fin 3))
      ⊢ iprop((iprop(ow c l ∗ cred (tallyAt (kcell (c, some (false, false, k, j))) () NQ)) -∗ WP c P Q) -∗ WP c (qSend k j p o h hw o' h' P) Q) := by
  subst hp ho ho'
  have hd := duties_k (F := F) m (dst c k) (some (true, false, k, j))
  have ha := amount_k (F := F) m (dst c k) (some (true, false, k, j)) 0
  have hpl := (payload_k (F := F) m (dst c k) (some (true, false, k, j)) 0).trans (pay_recvQ m c k j)
  have hOw : owed ((dst c k, some (true, false, k, j)) :: l) = owed l + tallyAt (kcell (dst c k, some (true, false, k, j))) () NQ := rfl
  unfold ow qSend freeQ
  iintro ⟨#HR, ⟨%W, HO⟩, Hs, ⟨%fd, Hd⟩, Ht1, Ht2⟩ Hk
  ihave #Hi1 := (records_at m K c (some (false, false, k, j))) $$ HR
  icases Hi1 with ⟨#HI1, #Hr1⟩
  ihave #Hi2 := (records_at m K (dst c k) (some (true, false, k, j))) $$ HR
  icases Hi2 with ⟨#HI2, #Hr2⟩
  rw [hOw]
  rw [cell_recvQ] at hd ha hpl ⊢
  iapply (Rounds.wp_send_pointsTo 𝒱₀ ER (Rd m) (c : Thread nD τ) none (κ₁ := K (c, some (false, false, k, j))) (κ₂ := K (dst c k, some (true, false, k, j)))
      (r₁ := 0) (r₂ := 0) (d₁ := 0) (d₂ := 0) (fd := fd) (fs := f) (q := fullShare)
      (by show (0 : Fin 3) ∈ (Rd (F := F) m).duties (kcell (c, some (false, false, k, j))) 0; rw [duties_k]; exact Finset.mem_singleton_self _)
      (by rw [hd]; exact Finset.mem_singleton_self _)
      () () NQ rfl (amount_k m c (some (false, false, k, j)) 0) ha (owed l) rfl (W := W)
      (by
        show _ ⊢ (Rd (F := F) m).payload (kcell (c, some (false, false, k, j))) 0 0
        rw [payload_k]
        unfold pay outQ
        iintro H; iexists f; iexact H)
      (by
        rw [hpl]
        unfold slotQ
        iintro H
        iexists ((rQs c j).view.write (Elt F) fd ((yQs k j).view.read (Elt F) f) Finset.univ)
        isplitr
        · ipureintro; exact (View.read_write_univ _ _).trans hf
        iexact H)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

theorem wp_sendS (c : Dev nD) (k : Fin 3) (j : Fin 2) (f : Buf (Elt F) ((ySs k j).view.loc (c : Thread nD τ)))
    (hf : (ySs k j).view.read (Elt F) f = shapeCast S1024 (tS m c (dst c k) j) shapeCasts_S1x1x1024_S1024)
    (p : Dev nD) (hp : p = dst c k) (o : Fin 3 → ℕ) (h : ∀ a, o a + S1x1x1024.size a ≤ S4x2x1024.size a) (ho : o = ![c.val, j.val, 0])
    (o' : Fin 2 → ℕ) (h' : ∀ a, o' a + S1x1.size a ≤ S4x2.size a) (ho' : o' = ![c.val, j.val]) (l : List (Dev nD × CI)) (P : Pg F) (Q : PUnit → sProp 𝕄) :
    iprop(records m K ∗ ow c ((dst c k, some (true, true, k, j)) :: l) ∗ cpts c (ySs k j) f ∗ freeS (dst c k) c j
        ∗ dutyTok ER (kcell (c, some (false, true, k, j))) 0 (0 : Fin 3) ∗ dutyTok ER (kcell (dst c k, some (true, true, k, j))) 0 (0 : Fin 3))
      ⊢ iprop((iprop(ow c l ∗ cred (tallyAt (kcell (c, some (false, true, k, j))) () NS)) -∗ WP c P Q) -∗ WP c (sSend k j p o h o' h' P) Q) := by
  subst hp ho ho'
  have hd := duties_k (F := F) m (dst c k) (some (true, true, k, j))
  have ha := amount_k (F := F) m (dst c k) (some (true, true, k, j)) 0
  have hpl := (payload_k (F := F) m (dst c k) (some (true, true, k, j)) 0).trans (pay_recvS m c k j)
  have hOw : owed ((dst c k, some (true, true, k, j)) :: l) = owed l + tallyAt (kcell (dst c k, some (true, true, k, j))) () NS := rfl
  unfold ow sSend freeS
  iintro ⟨#HR, ⟨%W, HO⟩, Hs, ⟨%fd, Hd⟩, Ht1, Ht2⟩ Hk
  ihave #Hi1 := (records_at m K c (some (false, true, k, j))) $$ HR
  icases Hi1 with ⟨#HI1, #Hr1⟩
  ihave #Hi2 := (records_at m K (dst c k) (some (true, true, k, j))) $$ HR
  icases Hi2 with ⟨#HI2, #Hr2⟩
  rw [hOw]
  rw [cell_recvS] at hd ha hpl ⊢
  iapply (Rounds.wp_send_pointsTo 𝒱₀ ER (Rd m) (c : Thread nD τ) none (κ₁ := K (c, some (false, true, k, j))) (κ₂ := K (dst c k, some (true, true, k, j)))
      (r₁ := 0) (r₂ := 0) (d₁ := 0) (d₂ := 0) (fd := fd) (fs := f) (q := fullShare)
      (by show (0 : Fin 3) ∈ (Rd (F := F) m).duties (kcell (c, some (false, true, k, j))) 0; rw [duties_k]; exact Finset.mem_singleton_self _)
      (by rw [hd]; exact Finset.mem_singleton_self _)
      () () NS rfl (amount_k m c (some (false, true, k, j)) 0) ha (owed l) rfl (W := W)
      (by
        show _ ⊢ (Rd (F := F) m).payload (kcell (c, some (false, true, k, j))) 0 0
        rw [payload_k]
        unfold pay outS
        iintro H; iexists f; iexact H)
      (by
        rw [hpl]
        unfold slotS
        iintro H
        iexists ((rSs c j).view.write (Elt F) fd ((ySs k j).view.read (Elt F) f) Finset.univ)
        isplitr
        · ipureintro; exact (View.read_write_univ _ _).trans hf
        iexact H)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-- Half `j` of step `k`: its codes and scales stored, and both sent. -/
theorem wp_tile (c : Dev nD) (k : Fin 3) (j : Fin 2) (p p' : Dev nD) (hp : p = dst c k) (hp' : p' = dst c k)
    (o : Fin 4 → ℕ) (h : ∀ a, o a + S1x1x1024x256.size a ≤ S4x2x1024x256.size a)
    (hw : (Rect.unit (s := S4x2x1024x256) o S1x1x1024x256.size h).WholeWords (EltTy.packing .i8)) (ho : o = ![c.val, j.val, 0, 0])
    (os : Fin 3 → ℕ) (hs : ∀ a, os a + S1x1x1024.size a ≤ S4x2x1024.size a) (hos : os = ![c.val, j.val, 0])
    (o' : Fin 2 → ℕ) (h' : ∀ a, o' a + S1x1.size a ≤ S4x2.size a) (ho' : o' = ![c.val, j.val])
    (l : List (Dev nD × CI)) (P : Pg F) (Q : PUnit → sProp 𝕄) :
    iprop(records m K ∗ ow c ((dst c k, some (true, false, k, j)) :: (dst c k, some (true, true, k, j)) :: l) ∗ toks c k j
        ∗ (outQ c k j ∗ outS c k j) ∗ (freeQ (dst c k) c j ∗ freeS (dst c k) c j))
      ⊢ iprop((iprop(ow c l ∗ credS c k j) -∗ WP c P Q)
          -∗ WP c (tStore k j (tQ m c (dst c k) j) (tS m c (dst c k) j) <| qSend k j p o h hw o' h' <| sSend k j p' os hs o' h' P) Q) := by
  unfold toks credS outQ outS tStore
  iintro ⟨#HR, HO, ⟨⟨Ht1, Ht2⟩, Ht3, Ht4⟩, ⟨⟨%f, Hf⟩, %g, Hg⟩, Hdq, Hds⟩ Hk
  iapply (wp_load_rect 𝒱₀ (c : Thread nD τ) none Set.univ (m := yQ) (r := yQR k j) (S := (yQs k j).view.set) (yQ_set k j)) $$ Hf
  iintro Hf
  iapply (wp_store 𝒱₀ (c : Thread nD τ) none Set.univ (m := yQ) (r := yQR k j) (Mk := Finset.univ) (S := (yQs k j).view.set) (yQ_set k j)) $$ Hf
  iintro Hf
  iapply (wp_load_rect 𝒱₀ (c : Thread nD τ) none Set.univ (m := yS) (r := ySR k j) (S := (ySs k j).view.set) (yS_set k j)) $$ Hg
  iintro Hg
  iapply (wp_store 𝒱₀ (c : Thread nD τ) none Set.univ (m := yS) (r := ySR k j) (Mk := Finset.univ) (S := (ySs k j).view.set) (yS_set k j)) $$ Hg
  iintro Hg
  iapply (wp_sendQ m K c k j ((yQ.access (yQR k j)).write (Elt F) f (tQ m c (dst c k) j) Finset.univ)
      (show shapeCast S1024x256 ((yQ.access (yQR k j)).read (Elt F) ((yQ.access (yQR k j)).write (Elt F) f (tQ m c (dst c k) j) Finset.univ)) shapeCasts_S1x1x1024x256_S1024x256 = _ by
        rw [View.read_write_univ]) p hp o h hw ho o' h' ho' _) $$ [HO Hf Hdq Ht1 Ht2]
  · isplitr; · iexact HR
    isplitl [HO]; · iexact HO
    isplitl [Hf]; · iexact Hf
    isplitl [Hdq]; · iexact Hdq
    isplitl [Ht1] <;> iassumption
  iintro ⟨HO, Hc1⟩
  iapply (wp_sendS m K c k j ((yS.access (ySR k j)).write (Elt F) g (tS m c (dst c k) j) Finset.univ)
      (show shapeCast S1024 ((yS.access (ySR k j)).read (Elt F) ((yS.access (ySR k j)).write (Elt F) g (tS m c (dst c k) j) Finset.univ)) shapeCasts_S1x1x1024_S1024 = _ by
        rw [View.read_write_univ]) p' hp' os hs hos o' h' ho' _) $$ [HO Hg Hds Ht3 Ht4]
  · isplitr; · iexact HR
    isplitl [HO]; · iexact HO
    isplitl [Hg]; · iexact Hg
    isplitl [Hds]; · iexact Hds
    isplitl [Ht3] <;> iassumption
  iintro ⟨HO, Hc2⟩
  iapply Hk
  isplitl [HO]; · iexact HO
  isplitl [Hc1] <;> iassumption

/-- The sender's waits for the end of both transfers: the slots back, the cells closed. -/
theorem wp_done (c : Dev nD) (k : Fin 3) (j : Fin 2) (o : Fin 4 → ℕ) (h : ∀ a, o a + S1x1x1024x256.size a ≤ S4x2x1024x256.size a)
    (hw : (Rect.unit (s := S4x2x1024x256) o S1x1x1024x256.size h).WholeWords (EltTy.packing .i8))
    (os : Fin 3 → ℕ) (hs : ∀ a, os a + S1x1x1024.size a ≤ S4x2x1024.size a) (P : Pg F) (Q : PUnit → sProp 𝕄) :
    iprop(records m K ∗ levAts L lv ∗ ow c [] ∗ credS c k j
        ∗ (atPos ER (kcell (c, some (false, false, k, j))) 0 ∅ 0 ∗ atPos ER (kcell (c, some (false, true, k, j))) 0 ∅ 0))
      ⊢ iprop((iprop(ow c [] ∗ (semVal (kcell (c, some (false, false, k, j))) 0 ∗ semVal (kcell (c, some (false, true, k, j))) 0) ∗ (outQ c k j ∗ outS c k j)) -∗ WP c P Q)
          -∗ WP c (qDone k j o h hw <| sDone k j os hs P) Q) := by
  unfold credS qDone sDone
  iintro ⟨#HR, #HL, HO, ⟨Hc1, Hc2⟩, Ha1, Ha2⟩ Hk
  iapply (wp_end m K c (false, false, k, j) (sQs k j).sem rfl _ (yQs k j) rfl [] (fun _ h => absurd h List.not_mem_nil)) $$ [HO Hc1 Ha1]
  · isplitr; · iexact HR
    isplitr; · iexact HL
    isplitl [HO]; · iexact HO
    isplitl [Hc1]; · iexact Hc1
    iexact Ha1
  iintro ⟨HO, Hz1, Hp1⟩
  iapply (wp_end m K c (false, true, k, j) (sSs k j).sem rfl _ (ySs k j) rfl [] (fun _ h => absurd h List.not_mem_nil)) $$ [HO Hc2 Ha2]
  · isplitr; · iexact HR
    isplitr; · iexact HL
    isplitl [HO]; · iexact HO
    isplitl [Hc2]; · iexact Hc2
    iexact Ha2
  iintro ⟨HO, Hz2, Hp2⟩
  iapply Hk
  isplitl [HO]; · iexact HO
  isplitl [Hz1 Hz2]
  · isplitl [Hz1] <;> iassumption
  unfold pay; dsimp only
  isplitl [Hp1] <;> iassumption

/-! ## A block received -/

/-- The credit and the positions for half `j` of what is received in step `k`. -/
def credR (c : Dev nD) (k : Fin 3) (j : Fin 2) : sProp 𝕄 :=
  iprop((cred (tallyAt (kcell (c, some (true, false, k, j))) () NQ) ∗ cred (tallyAt (kcell (c, some (true, true, k, j))) () NS))
    ∗ (atPos ER (kcell (c, some (true, false, k, j))) 0 ∅ 0 ∗ atPos ER (kcell (c, some (true, true, k, j))) 0 ∅ 0))
/-- Its two slots filled, -/
def filled (c : Dev nD) (k : Fin 3) (j : Fin 2) : sProp 𝕄 :=
  iprop(slotQ c (src c k) j (tQ m (src c k) c j) ∗ slotS c (src c k) j (tS m (src c k) c j))
/-- and its two cells closed. -/
def closedR (c : Dev nD) (k : Fin 3) (j : Fin 2) : sProp 𝕄 :=
  iprop(semVal (kcell (c, some (true, false, k, j))) 0 ∗ semVal (kcell (c, some (true, true, k, j))) 0)

theorem wp_recv (c : Dev nD) (k : Fin 3) (j : Fin 2) (o : Fin 4 → ℕ) (h : ∀ a, o a + S1x1x1024x256.size a ≤ S4x2x1024x256.size a)
    (hw : (Rect.unit (s := S4x2x1024x256) o S1x1x1024x256.size h).WholeWords (EltTy.packing .i8))
    (os : Fin 3 → ℕ) (hs : ∀ a, os a + S1x1x1024.size a ≤ S4x2x1024.size a)
    (o' : Fin 2 → ℕ) (h' : ∀ a, o' a + S1x1.size a ≤ S4x2.size a) (ho' : o' = ![(src c k).val, j.val]) (P : Pg F) (Q : PUnit → sProp 𝕄) :
    iprop(records m K ∗ levAts L lv ∗ ow c [] ∗ credR c k j)
      ⊢ iprop((iprop(ow c [] ∗ filled m c k j ∗ closedR c k j) -∗ WP c P Q)
          -∗ WP c (qRecv o h hw o' h' <| sRecv j os hs o' h' P) Q) := by
  subst ho'
  unfold credR qRecv sRecv
  iintro ⟨#HR, #HL, HO, ⟨Hc1, Hc2⟩, Ha1, Ha2⟩ Hk
  iapply (wp_end m K c (true, false, k, j) (vQo _ h').sem rfl _ (rQo o h) rfl [] (fun _ h => absurd h List.not_mem_nil)) $$ [HO Hc1 Ha1]
  · isplitr; · iexact HR
    isplitr; · iexact HL
    isplitl [HO]; · iexact HO
    isplitl [Hc1]; · iexact Hc1
    iexact Ha1
  iintro ⟨HO, Hz1, Hp1⟩
  iapply (wp_end m K c (true, true, k, j) (vSo _ h').sem rfl _ (rSo os hs) rfl [] (fun _ h => absurd h List.not_mem_nil)) $$ [HO Hc2 Ha2]
  · isplitr; · iexact HR
    isplitr; · iexact HL
    isplitl [HO]; · iexact HO
    isplitl [Hc2]; · iexact Hc2
    iexact Ha2
  iintro ⟨HO, Hz2, Hp2⟩
  iapply Hk
  isplitl [HO]; · iexact HO
  unfold filled closedR pay; dsimp only
  isplitl [Hp1 Hp2]
  · isplitl [Hp1] <;> iassumption
  isplitl [Hz1] <;> iassumption

theorem cast_inj {s t : Shape} {α : Type} (h : Shape.ShapeCasts s t) (f g : s.Idx → α) (e : shapeCast t f h = shapeCast t g h) : f = g := by
  have := cast_cancel f _ h (Eq.symm h) e
  rwa [shapeCast_shapeCast] at this

/-- The received block read. -/
theorem wp_tRead (c : Dev nD) (k : Fin 3) (j : Fin 2) (o : Fin 3 → ℕ) (h : ∀ a, o a + S1x1x1024.size a ≤ S4x2x1024.size a) (ho : o = ![(src c k).val, j.val, 0])
    (o' : Fin 4 → ℕ) (h' : ∀ a, o' a + S1x1x1024x256.size a ≤ S4x2x1024x256.size a) (ho' : o' = ![(src c k).val, j.val, 0, 0])
    (P : Vec F S1x1x1024 .f32 → Vec F S1x1x1024x256 .i8 → Pg F) (Q : PUnit → sProp 𝕄) :
    filled m c k j
      ⊢ iprop((filled m c k j -∗ WP c (P (tS m (src c k) c j) (tQ m (src c k) c j)) Q) -∗ WP c (tRead o h o' h' P) Q) := by
  subst ho ho'
  unfold filled slotQ slotS tRead
  iintro ⟨⟨%f, %hf, Hf⟩, %g, %hg, Hg⟩ Hk
  iapply (wp_load_rect 𝒱₀ (c : Thread nD τ) none Set.univ (m := rS) (r := Rect.unit (s := S4x2x1024) _ S1x1x1024.size h) (S := (rSs (src c k) j).view.set) (by rw [View.set_reshape])) $$ Hg
  iintro Hg
  iapply (wp_load_rect 𝒱₀ (c : Thread nD τ) none Set.univ (m := rQ) (r := Rect.unit (s := S4x2x1024x256) _ S1x1x1024x256.size h') (S := (rQs (src c k) j).view.set) (by rw [View.set_reshape])) $$ Hf
  iintro Hf
  have e1 : (rS.access (Rect.unit (s := S4x2x1024) ![(src c k).val, j.val, 0] S1x1x1024.size h)).read (Elt F) g = tS m (src c k) c j :=
    cast_inj shapeCasts_S1x1x1024_S1024 _ _ hg
  have e2 : (rQ.access (Rect.unit (s := S4x2x1024x256) ![(src c k).val, j.val, 0, 0] S1x1x1024x256.size h')).read (Elt F) f = tQ m (src c k) c j :=
    cast_inj shapeCasts_S1x1x1024x256_S1024x256 _ _ hf
  rw [e1, e2]
  iapply Hk
  isplitl [Hf]
  · iexists f; isplitr
    · ipureintro; exact hf
    iexact Hf
  iexists g; isplitr
  · ipureintro; exact hg
  iexact Hg

end Cert.KernelIdeal.A2A

end
-- ==== Proof.Steps.lean ====
/- The steps of the body put together, and what a device holds before and after them. -/
module

public import proofs.«01_k».proof.Proof.Talk

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Named F]

local notation "𝕄" => MT nD τ sig Unit (Elt F) ℕ UU ℕ

variable (m : (ℓ : Loc nD τ sig) → Buf (Elt F) ℓ) (K : Dev nD × CI → ℕ)

/-! ## The printed offsets -/

theorem src_val : ∀ (c : Dev nD) (k : Fin 3), ((c.val + 3) - k.val) % 4 = (src c k).val := by decide
theorem at_off1 (c : Dev nD) (k : Fin 3) (j : Fin 2) : k0_off1 c (BitVec.ofNat 32 k.val) (BitVec.ofNat 32 (256 * j.val)) = ![0, 512 * (dst c k).val + 256 * j.val] := k0_off1_eq c k j
theorem at_off10 (c : Dev nD) (k : Fin 3) : k0_off10 c (BitVec.ofNat 32 (1 + k.val)) = ![(src c k).val, (0 : Fin 2).val] := by rw [k0_off10_eq, src_val]; rfl
theorem at_off13 (c : Dev nD) (k : Fin 3) : k0_off13 c (BitVec.ofNat 32 (1 + k.val)) = ![(src c k).val, (1 : Fin 2).val] := by rw [k0_off13_eq, src_val]; rfl
theorem at_off16 (c : Dev nD) (k : Fin 3) : k0_off16 c (BitVec.ofNat 32 (1 + k.val)) = ![(src c k).val, (0 : Fin 2).val, 0] := by rw [k0_off16_eq, src_val]; rfl
theorem at_off17 (c : Dev nD) (k : Fin 3) : k0_off17 c (BitVec.ofNat 32 (1 + k.val)) = ![(src c k).val, (0 : Fin 2).val, 0, 0] := by rw [k0_off17_eq, src_val]; rfl
theorem at_off18 (c : Dev nD) (k : Fin 3) : k0_off18 c (BitVec.ofNat 32 (1 + k.val)) = ![(src c k).val, (1 : Fin 2).val, 0] := by rw [k0_off18_eq, src_val]; rfl
theorem at_off19 (c : Dev nD) (k : Fin 3) : k0_off19 c (BitVec.ofNat 32 (1 + k.val)) = ![(src c k).val, (1 : Fin 2).val, 0, 0] := by rw [k0_off19_eq, src_val]; rfl
theorem at_off20 (c : Dev nD) (k : Fin 3) : k0_off20 c (BitVec.ofNat 32 (1 + k.val)) = ![1024 * (src c k).val, 0] := by rw [k0_off20_eq, src_val]

/-! ## The result's rows -/

theorem inbR : ∀ p : Fin 4, ∀ a, (![1024 * p.val, 0] : Fin 2 → Nat) a + S1024x512.size a ≤ S4096x512.size a := by decide
/-- The rows of the result that come from `p`. -/
abbrev oR (p : Fin 4) : Memref sig .tc .hbm S1024x512 .f32 := oRow ![1024 * p.val, 0] (inbR p)
/-- What device `c` keeps of its own, and what it makes of what came in step `k`. -/
def ownV (c : Dev nD) : Vec F S1024x512 .f32 := both (tO m c c 0) (tO m c c 1)
def fromV (c : Dev nD) (k : Fin 3) : Vec F S1024x512 .f32 :=
  both (dq (tS m (src c k) c 0) (tQ m (src c k) c 0)) (dq (tS m (src c k) c 1) (tQ m (src c k) c 1))

theorem some_row (c : Dev nD) (p : Fin 4) (o : Fin 2 → ℕ) (h : ∀ a, o a + S1024x512.size a ≤ S4096x512.size a) (ho : o = ![1024 * p.val, 0]) :
    some' (F := F) c (oR p) ⊢ some' c (oRow o h) := by subst ho; exact .rfl

/-! ## Steps together -/

/-- The next columns' copy started, the present ones waited for, their block made, stored and sent. -/
theorem wp_step (c : Dev nD) (k : Fin 3) (j : Fin 2) (b b' : Fin 2) (q q' : PosShare TreeShare)
    (ow1 : Fin 2 → ℕ) (hw1 : ∀ a, ow1 a + S4096x256.size a ≤ S4096x2048.size a) (how : ow1 = ![0, 512 * (dst c k).val + 256 * j.val])
    (ow2 : Fin 2 → ℕ) (hw2 : ∀ a, ow2 a + S4096x256.size a ≤ S4096x2048.size a)
    (p p' : Dev nD) (hp : p = dst c k) (hp' : p' = dst c k)
    (o : Fin 4 → ℕ) (h : ∀ a, o a + S1x1x1024x256.size a ≤ S4x2x1024x256.size a)
    (hw : (Rect.unit (s := S4x2x1024x256) o S1x1x1024x256.size h).WholeWords (EltTy.packing .i8)) (ho : o = ![c.val, j.val, 0, 0])
    (os : Fin 3 → ℕ) (hs : ∀ a, os a + S1x1x1024.size a ≤ S4x2x1024.size a) (hos : os = ![c.val, j.val, 0])
    (o' : Fin 2 → ℕ) (h' : ∀ a, o' a + S1x1.size a ≤ S4x2.size a) (ho' : o' = ![c.val, j.val])
    (l : List (Dev nD × CI)) (hl : ∀ x ∈ l, 0 < lvl x.2) (P : Pg F) (Q : PUnit → sProp 𝕄) :
    iprop((records m K ∗ levAts L lv) ∗ ow c ((dst c k, some (true, false, k, j)) :: (dst c k, some (true, true, k, j)) :: l) ∗ toks c k j
        ∗ (outQ c k j ∗ outS c k j) ∗ (freeQ (dst c k) c j ∗ freeS (dst c k) c j)
        ∗ wfl m c q ow1 hw1 b ∗ (wts m c q' ∗ some' c (wSlot b') ∗ semVal ((c : Thread nD τ), .dma (wSem b').sem) 0))
      ⊢ iprop((iprop(ow c l ∗ credS c k j ∗ wfl m c q' ow2 hw2 b' ∗ (wts m c q ∗ some' c (wSlot b) ∗ semVal ((c : Thread nD τ), .dma (wSem b).sem) 0)) -∗ WP c P Q)
          -∗ WP c (wStart ow2 hw2 b' <| wWait ow1 hw1 b fun w => tStore k j (cQ (vA m c) (vB m c) (vX m c) w) (cS (vA m c) (vB m c) (vX m c) w) <|
              qSend k j p o h hw o' h' <| sSend k j p' os hs o' h' P) Q) := by
  iintro ⟨⟨#HR, #HL⟩, HO, Ht, Ho, Hf, Hw, Hn⟩ Hk
  iapply (wp_wStart m c q' ow2 hw2 b') $$ Hn
  iintro Hn
  iapply (wp_wWait m c q ow1 hw1 b ((dst c k, some (true, false, k, j)) :: (dst c k, some (true, true, k, j)) :: l)
    (by
      intro x hx
      rcases List.mem_cons.1 hx with rfl | hx
      · exact Nat.two_pos
      rcases List.mem_cons.1 hx with rfl | hx
      · exact Nat.two_pos
      exact hl x hx) (dst c k) j how) $$ [Hw HO]
  · isplitr; · iexact HL
    isplitl [Hw] <;> iassumption
  iintro ⟨H1, H2, H3, HO⟩
  iapply (wp_tile m K c k j p p' hp hp' o h hw ho os hs hos o' h' ho' l) $$ [HO Ht Ho Hf]
  · isplitr; · iexact HR
    isplitl [HO]; · iexact HO
    isplitl [Ht]; · iexact Ht
    isplitl [Ho] <;> iassumption
  iintro ⟨HO, Hc⟩
  iapply Hk
  isplitl [HO]; · iexact HO
  isplitl [Hc]; · iexact Hc
  isplitl [Hn]; · iexact Hn
  isplitl [H1]; · iexact H1
  isplitl [H2] <;> iassumption

/-- Both halves of step `k` waited for. -/
theorem wp_recv2 (c : Dev nD) (k : Fin 3) (o₀ o₁ : Fin 4 → ℕ) (h₀ : ∀ a, o₀ a + S1x1x1024x256.size a ≤ S4x2x1024x256.size a) (h₁ : ∀ a, o₁ a + S1x1x1024x256.size a ≤ S4x2x1024x256.size a)
    (hw₀ : (Rect.unit (s := S4x2x1024x256) o₀ S1x1x1024x256.size h₀).WholeWords (EltTy.packing .i8))
    (hw₁ : (Rect.unit (s := S4x2x1024x256) o₁ S1x1x1024x256.size h₁).WholeWords (EltTy.packing .i8))
    (s₀ s₁ : Fin 3 → ℕ) (hs₀ : ∀ a, s₀ a + S1x1x1024.size a ≤ S4x2x1024.size a) (hs₁ : ∀ a, s₁ a + S1x1x1024.size a ≤ S4x2x1024.size a)
    (v₀ v₁ : Fin 2 → ℕ) (hv₀ : ∀ a, v₀ a + S1x1.size a ≤ S4x2.size a) (hv₁ : ∀ a, v₁ a + S1x1.size a ≤ S4x2.size a)
    (e₀ : v₀ = ![(src c k).val, (0 : Fin 2).val]) (e₁ : v₁ = ![(src c k).val, (1 : Fin 2).val]) (P : Pg F) (Q : PUnit → sProp 𝕄) :
    iprop((records m K ∗ levAts L lv) ∗ ow c [] ∗ credR c k 0 ∗ credR c k 1)
      ⊢ iprop((iprop(ow c [] ∗ (filled m c k 0 ∗ filled m c k 1) ∗ closedR c k 0 ∗ closedR c k 1) -∗ WP c P Q)
          -∗ WP c (qRecv o₀ h₀ hw₀ v₀ hv₀ <| sRecv 0 s₀ hs₀ v₀ hv₀ <| qRecv o₁ h₁ hw₁ v₁ hv₁ <| sRecv 1 s₁ hs₁ v₁ hv₁ P) Q) := by
  iintro ⟨⟨#HR, #HL⟩, HO, Hc0, Hc1⟩ Hk
  iapply (wp_recv m K c k 0 o₀ h₀ hw₀ s₀ hs₀ v₀ hv₀ e₀) $$ [HO Hc0]
  · isplitr; · iexact HR
    isplitr; · iexact HL
    isplitl [HO] <;> iassumption
  iintro ⟨HO, Hf0, Hz0⟩
  iapply (wp_recv m K c k 1 o₁ h₁ hw₁ s₁ hs₁ v₁ hv₁ e₁) $$ [HO Hc1]
  · isplitr; · iexact HR
    isplitr; · iexact HL
    isplitl [HO] <;> iassumption
  iintro ⟨HO, Hf1, Hz1⟩
  iapply Hk
  isplitl [HO]; · iexact HO
  isplitl [Hf0 Hf1]
  · isplitl [Hf0] <;> iassumption
  isplitl [Hz0] <;> iassumption

/-- What came in step `k` read, put into the staging slot `g` and its copy into the result started. -/
theorem wp_place (c : Dev nD) (k : Fin 3) (g : Fin 3) (a₀ a₁ : Fin 3 → ℕ) (ha₀ : ∀ a, a₀ a + S1x1x1024.size a ≤ S4x2x1024.size a) (ha₁ : ∀ a, a₁ a + S1x1x1024.size a ≤ S4x2x1024.size a)
    (b₀ b₁ : Fin 4 → ℕ) (hb₀ : ∀ a, b₀ a + S1x1x1024x256.size a ≤ S4x2x1024x256.size a) (hb₁ : ∀ a, b₁ a + S1x1x1024x256.size a ≤ S4x2x1024x256.size a)
    (ea₀ : a₀ = ![(src c k).val, (0 : Fin 2).val, 0]) (ea₁ : a₁ = ![(src c k).val, (1 : Fin 2).val, 0])
    (eb₀ : b₀ = ![(src c k).val, (0 : Fin 2).val, 0, 0]) (eb₁ : b₁ = ![(src c k).val, (1 : Fin 2).val, 0, 0])
    (o : Fin 2 → ℕ) (h : ∀ a, o a + S1024x512.size a ≤ S4096x512.size a) (ho : o = ![1024 * (src c k).val, 0]) (P : Pg F) (Q : PUnit → sProp 𝕄) :
    iprop((filled m c k 0 ∗ filled m c k 1) ∗ some' c (tSlot g) ∗ some' c (oR (src c k)) ∗ semVal ((c : Thread nD τ), .dma (oSem g).sem) 0)
      ⊢ iprop((iprop((filled m c k 0 ∗ filled m c k 1) ∗ ofl c g o h (fromV m c k)) -∗ WP c P Q)
          -∗ WP c (tRead a₀ ha₀ b₀ hb₀ fun s q => tPut g 0 (dq s q) <| tRead a₁ ha₁ b₁ hb₁ fun s q => tPut g 1 (dq s q) <| oStart g o h P) Q) := by
  subst ho
  iintro ⟨⟨Hf0, Hf1⟩, Ht, Hr, Hz⟩ Hk
  iapply (wp_tRead m c k 0 a₀ ha₀ ea₀ b₀ hb₀ eb₀) $$ Hf0
  iintro Hf0
  iapply (wp_tPut0 c g) $$ Ht
  iintro Ht
  iapply (wp_tRead m c k 1 a₁ ha₁ ea₁ b₁ hb₁ eb₁) $$ Hf1
  iintro Hf1
  iapply (wp_tPut1 c g) $$ Ht
  iintro Ht
  iapply (wp_oStart c g _ h) $$ [Ht Hr Hz]
  · isplitl [Ht]; · iexact Ht
    isplitl [Hr] <;> iassumption
  iintro Ho
  iapply Hk
  isplitl [Hf0 Hf1]
  · isplitl [Hf0] <;> iassumption
  unfold fromV; iexact Ho

theorem wp_oWaitR (c : Dev nD) (g : Fin 3) (p : Fin 4) (o : Fin 2 → ℕ) (h : ∀ a, o a + S1024x512.size a ≤ S4096x512.size a) (ho : o = ![1024 * p.val, 0]) (v : Vec F S1024x512 .f32)
    (P : Pg F) (Q : PUnit → sProp 𝕄) :
    iprop((records m K ∗ levAts L lv) ∗ ofl c g o h v ∗ ow c [])
      ⊢ iprop((iprop(holds c (oR p) v ∗ some' c (tSlot g) ∗ semVal ((c : Thread nD τ), .dma (oSem g).sem) 0 ∗ ow c []) -∗ WP c P Q) -∗ WP c (oWait g o h P) Q) := by
  subst ho
  iintro ⟨⟨#HR, #HL⟩, Hf, HO⟩ Hk
  iapply (wp_oWait c g _ h v [] (fun _ h => absurd h List.not_mem_nil)) $$ [Hf HO]
  · isplitr; · iexact HL
    isplitl [Hf] <;> iassumption
  iexact Hk

/-! ## The whole body -/

/-- One of each of the six halves. -/
abbrev six (Φ : Fin 3 → Fin 2 → sProp 𝕄) : sProp 𝕄 := iprop((Φ 0 0 ∗ Φ 0 1) ∗ (Φ 1 0 ∗ Φ 1 1) ∗ (Φ 2 0 ∗ Φ 2 1))

abbrev atS (c : Dev nD) (k : Fin 3) (j : Fin 2) : sProp 𝕄 :=
  iprop(atPos ER (kcell (c, some (false, false, k, j))) 0 ∅ 0 ∗ atPos ER (kcell (c, some (false, true, k, j))) 0 ∅ 0)
abbrev closedS (c : Dev nD) (k : Fin 3) (j : Fin 2) : sProp 𝕄 :=
  iprop(semVal (kcell (c, some (false, false, k, j))) 0 ∗ semVal (kcell (c, some (false, true, k, j))) 0)
abbrev outs (c : Dev nD) (k : Fin 3) (j : Fin 2) : sProp 𝕄 := iprop(outQ c k j ∗ outS c k j)
abbrev btok (c : Dev nD) (i : Fin 3) : sProp 𝕄 := dutyTok ER (kcell (dst c i, none)) 0 (Fin.rev i)
abbrev zl (c : Dev nD) (x : LI) : sProp 𝕄 := semVal ((c : Thread nD τ), lsem c x) 0

/-- What the protocol hands a device. -/
def talk (c : Dev nD) : sProp 𝕄 :=
  iprop((cred (tallyAt (kcell (c, none)) () 3) ∗ atPos ER (kcell (c, none)) 0 ∅ 0) ∗ (btok c 0 ∗ btok c 1 ∗ btok c 2)
    ∗ six (toks c) ∗ six (credR c) ∗ six (atS c))
/-- What it has of its own memory, slot by slot: the operand's buffer, the weights' slots, the slots sent from, the staging
    slots; -/
def mine (c : Dev nD) : sProp 𝕄 :=
  iprop(some' c xV ∗ (some' c (wSlot 0) ∗ some' c (wSlot 1)) ∗ six (outs c) ∗ (some' c (tSlot 0) ∗ some' c (tSlot 1) ∗ some' c (tSlot 2)))
/-- its own semaphores, -/
def locals (c : Dev nD) : sProp 𝕄 := iprop(zl c (.inl 0) ∗ (zl c (.inl 1) ∗ zl c (.inl 2)) ∗ (zl c (.inl 3) ∗ zl c (.inl 4) ∗ zl c (.inl 5)))
/-- and its arguments and scalars. -/
def given (c : Dev nD) : sProp 𝕄 :=
  iprop(cpts c xH (m ((c : Thread nD τ).loc main_arg0)) ∗ (wts m c fullShare.left ∗ wts m c fullShare.right) ∗ (cpts c sxM (stg0 m c) ∗ cpts c swM (stg1 m c)))
/-- The protocol's cells closed. -/
def quiet (c : Dev nD) : sProp 𝕄 := iprop(semVal (kcell (c, none)) 0 ∗ six (closedS c) ∗ six (closedR c))

def pre (c : Dev nD) : sProp 𝕄 :=
  iprop((records m K ∗ levAts L lv) ∗ ow c (dueCells c) ∗ talk c ∗ (free4 c (dst c 0) ∗ free4 c (dst c 1) ∗ free4 c (dst c 2)) ∗ mine c ∗ locals c ∗ given m c
    ∗ (some' c (oR c) ∗ some' c (oR (src c 0)) ∗ some' c (oR (src c 1)) ∗ some' c (oR (src c 2))))
def post (c : Dev nD) : sProp 𝕄 :=
  iprop(ow c [] ∗ quiet c ∗ six (filled m c) ∗ mine c ∗ locals c ∗ given m c
    ∗ (holds c (oR c) (ownV m c) ∗ holds c (oR (src c 0)) (fromV m c 0) ∗ holds c (oR (src c 1)) (fromV m c 1) ∗ holds c (oR (src c 2)) (fromV m c 2)))

theorem hz1 : (![0] : Fin 1 → Nat) = fun _ => 0 := funext fun a => by fin_cases a; rfl
theorem hz2 : (![0, 0] : Fin 2 → Nat) = fun _ => 0 := funext fun a => by fin_cases a <;> rfl
theorem lv_x (c : Dev nD) : lv ((c : Thread nD τ), .dma cc0_scratch7.sem) () = 0 := lv_not c _ fun i => lsem_ne c (.inl 0) i

/-- The scalars and the operand read. -/
theorem wp_sx (c : Dev nD) (P : Vec F S1 .f32 → Pg F) (Q : PUnit → sProp 𝕄) :
    cpts c sxM (stg0 m c) ⊢ iprop((cpts c sxM (stg0 m c) -∗ WP c (P (stg0 m c)) Q)
      -∗ WP c (.op (.load sxM (Rect.unit (s := S1) ![0] S1.size inb_S1_S1_0).toLoadRect (View.loadsAt_rect (View.loads_smem_one rfl numel1_S1))) P) Q) := by
  iintro H Hk
  iapply (wp_load 𝒱₀ (c : Thread nD τ) none Set.univ (m := sxM) (S := sxM.view.set) (View.setOn_subset_set _ _)) $$ H
  have h : (sxM.view.readAt (Elt F) (Rect.unit (s := S1) ![0] S1.size inb_S1_S1_0).toLoadRect (stg0 m c) : Vec F S1 .f32) = stg0 m c :=
    Memref.readAt_unit_zero (Elt F) cc0_stg0_0 hz1 _ (stg0 m c)
  rw [h]
  iexact Hk
theorem wp_sw (c : Dev nD) (P : Vec F S1 .f32 → Pg F) (Q : PUnit → sProp 𝕄) :
    cpts c swM (stg1 m c) ⊢ iprop((cpts c swM (stg1 m c) -∗ WP c (P (stg1 m c)) Q)
      -∗ WP c (.op (.load swM (Rect.unit (s := S1) ![0] S1.size inb_S1_S1_0).toLoadRect (View.loadsAt_rect (View.loads_smem_one rfl numel1_S1))) P) Q) := by
  iintro H Hk
  iapply (wp_load 𝒱₀ (c : Thread nD τ) none Set.univ (m := swM) (S := swM.view.set) (View.setOn_subset_set _ _)) $$ H
  have h : (swM.view.readAt (Elt F) (Rect.unit (s := S1) ![0] S1.size inb_S1_S1_0).toLoadRect (stg1 m c) : Vec F S1 .f32) = stg1 m c :=
    Memref.readAt_unit_zero (Elt F) cc0_stg1_0 hz1 _ (stg1 m c)
  rw [h]
  iexact Hk
theorem wp_xV (c : Dev nD) (P : Vec F S1024x4096 .f32 → Pg F) (Q : PUnit → sProp 𝕄) :
    holds c xV (xH.view.read (Elt F) (m ((c : Thread nD τ).loc main_arg0))) ⊢ iprop((some' c xV -∗ WP c (P (vX m c)) Q)
      -∗ WP c (.op (.load xV (Rect.unit (s := S1024x4096) ![0, 0] S1024x4096.size inb_S1024x4096_S1024x4096_0_0).toLoadRect (View.loadsAt_vmem h_S1024x4096)) P) Q) := by
  unfold holds some'
  iintro ⟨%fx, %hfx, H⟩ Hk
  iapply (wp_load 𝒱₀ (c : Thread nD τ) none Set.univ (m := xV) (S := xV.view.set) (View.setOn_subset_set _ _)) $$ H
  have hx : (xV.view.readAt (Elt F) (Rect.unit (s := S1024x4096) ![0, 0] S1024x4096.size inb_S1024x4096_S1024x4096_0_0).toLoadRect fx : Vec F S1024x4096 .f32) = vX m c :=
    (Memref.readAt_unit_zero (Elt F) cc0_scratch0 hz2 _ fx).trans hfx
  rw [hx]
  iintro H
  iapply Hk
  iexists fx
  iexact H

/-- Nothing left to do. -/
theorem wp_over (c : Dev nD) (Q : PUnit → sProp 𝕄) : Q ⟨⟩ ⊢ WP (F := F) c (.ret ⟨⟩) Q := by
  show Q ⟨⟩ ⊢ wp frame (wpE (defs₀ (F := F)) 𝒱₀ (c : Thread nD τ) none) Set.univ (.ret ⟨⟩) Q
  rw [wp_ret]; exact fupd_intro

/-- The transfers still owed when the halves `l` are still to be sent. -/
def sends (c : Dev nD) (l : List (Fin 3 × Fin 2)) : List (Dev nD × CI) :=
  l.flatMap fun kj => [(dst c kj.1, some (true, false, kj)), (dst c kj.1, some (true, true, kj))]
theorem sends_lvl (c : Dev nD) (l : List (Fin 3 × Fin 2)) : ∀ x ∈ sends c l, 1 < lvl x.2 := by
  intro x hx
  unfold sends at hx
  rw [List.mem_flatMap] at hx
  obtain ⟨kj, -, hx⟩ := hx
  rcases List.mem_cons.1 hx with rfl | hx
  · exact Nat.one_lt_two
  · rcases List.mem_cons.1 hx with rfl | hx
    · exact Nat.one_lt_two
    · exact absurd hx List.not_mem_nil
theorem sends_pos (c : Dev nD) (l : List (Fin 3 × Fin 2)) : ∀ x ∈ sends c l, 0 < lvl x.2 := fun x hx => Nat.lt_of_succ_lt (sends_lvl c l x hx)

end Cert.KernelIdeal.A2A

end
-- ==== Proof.Slots.lean ====
/- The buffers of one device cut into the slots the body works with, and put together again. -/
module

public import proofs.«01_k».proof.Proof.Steps
public import Idealize.ShloMosaic.Lib.Ring

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Ring

variable {F : FTy → Type} [FloatOps F] [Named F]

local notation "𝕄" => MT nD τ sig Unit (Elt F) ℕ UU ℕ

/-! ## A buffer cut by a function of its indices -/

section Cut

variable {T : Type} [Fintype T] [DecidableEq T] {ℓ : Loc nD τ sig} (S : T → Finset (Idx ℓ)) (at' : Idx ℓ → T) (h : ∀ t i, i ∈ S t ↔ at' i = t)

include h in
theorem cut_disj (t t' : T) (ht : t ≠ t') : Disjoint (S t) (S t') := by
  rw [Finset.disjoint_left]
  intro i hi hi'
  exact ht (((h t i).1 hi).symm.trans ((h t' i).1 hi'))
include h in
theorem cut_cover : Finset.univ.biUnion S = Finset.univ := by
  ext i
  simp only [Finset.mem_biUnion, Finset.mem_univ, true_and, iff_true]
  exact ⟨at' i, (h _ i).2 rfl⟩

include h in
/-- A whole buffer at some contents is its parts, each at some contents. -/
theorem cut_open : (iprop(∃ f : Buf (Elt F) ℓ, ℓ ↦{fullShare} f) : sProp 𝕄) ⊢ bigSep Finset.univ fun t => iprop(∃ f : Buf (Elt F) ℓ, ℓ ↦[S t]{fullShare} f) := by
  iintro ⟨%f, H⟩
  have hm : (bigSep Finset.univ fun t => (ℓ ↦[S t]{fullShare} f : sProp 𝕄)) ⊢ bigSep Finset.univ fun t => iprop(∃ f : Buf (Elt F) ℓ, ℓ ↦[S t]{fullShare} f) :=
    bigSep_mono fun t _ => exists_intro (Φ := fun f : Buf (Elt F) ℓ => (ℓ ↦[S t]{fullShare} f : sProp 𝕄)) f
  ihave H := (Entails.of_eq (pointsTo_blocks S (cut_disj S at' h) (cut_cover S at' h) f)) $$ H
  iapply hm $$ H
include h in
theorem cut_close (f₀ : Buf (Elt F) ℓ) : (bigSep Finset.univ fun t => iprop(∃ f : Buf (Elt F) ℓ, ℓ ↦[S t]{fullShare} f) : sProp 𝕄) ⊢ iprop(∃ f : Buf (Elt F) ℓ, ℓ ↦{fullShare} f) :=
  pointsTo_blocks_join_exists S (cut_disj S at' h) (cut_cover S at' h) f₀

end Cut

/-! ## Around the devices -/

theorem all_src (c : Dev nD) (Φ : Dev nD → sProp 𝕄) : bigSep Finset.univ Φ = iprop(Φ c ∗ Φ (src c 0) ∗ Φ (src c 1) ∗ Φ (src c 2)) :=
  bigSep_univ_eq_bigSepL [c, src c 0, src c 1, src c 2] (by revert c; decide) (by revert c; decide) Φ
theorem all_dst (c : Dev nD) (Φ : Dev nD → sProp 𝕄) : bigSep Finset.univ Φ = iprop(Φ c ∗ Φ (dst c 0) ∗ Φ (dst c 1) ∗ Φ (dst c 2)) :=
  bigSep_univ_eq_bigSepL [c, dst c 0, dst c 1, dst c 2] (by revert c; decide) (by revert c; decide) Φ
theorem all_two (Φ : Fin 2 → sProp 𝕄) : bigSep Finset.univ Φ = iprop(Φ 0 ∗ Φ 1) := bigSep_univ_eq_bigSepL [0, 1] (by decide) (by decide) Φ
theorem all_three (Φ : Fin 3 → sProp 𝕄) : bigSep Finset.univ Φ = iprop(Φ 0 ∗ Φ 1 ∗ Φ 2) := bigSep_univ_eq_bigSepL [0, 1, 2] (by decide) (by decide) Φ
theorem all_six (Φ : Fin 3 × Fin 2 → sProp 𝕄) : bigSep Finset.univ Φ = six fun k j => Φ (k, j) := by
  rw [bigSep_univ_prod, all_three, all_two, all_two, all_two]

/-! ## Where the slots lie -/

theorem unit_iff (a n i : ℕ) (h : n = 1) : (a ≤ i ∧ i < a + n) ↔ i = a := by omega

theorem wSlot_mem (b : Fin 2) (i : S2x4096x256.Idx) : i ∈ (wSlot b).view.set ↔ (i 0 : Fin 2) = b := by
  rw [show (wSlot b).view.set = (wR b).set from (View.set_reshape _ _).trans (View.set_slice_whole _ _), Rect.mem_set_unit]
  constructor
  · intro h; exact Fin.ext ((unit_iff _ _ _ rfl).1 (h 0))
  · rintro rfl a
    match a with
    | ⟨0, _⟩ => exact (unit_iff _ _ _ rfl).2 rfl
    | ⟨1, _⟩ => exact ⟨Nat.zero_le _, lt_of_lt_of_eq (i 1).isLt (Nat.zero_add _).symm⟩
    | ⟨2, _⟩ => exact ⟨Nat.zero_le _, lt_of_lt_of_eq (i 2).isLt (Nat.zero_add _).symm⟩
theorem yQ_mem (kj : Fin 3 × Fin 2) (i : S3x2x1024x256.Idx) : i ∈ (yQs kj.1 kj.2).view.set ↔ ((i 0, i 1) : Fin 3 × Fin 2) = kj := by
  rw [show (yQs kj.1 kj.2).view.set = (yQR kj.1 kj.2).set from (View.set_reshape _ _).trans (View.set_slice_whole _ _), Rect.mem_set_unit]
  constructor
  · intro h; exact Prod.ext (Fin.ext ((unit_iff _ _ _ rfl).1 (h 0))) (Fin.ext ((unit_iff _ _ _ rfl).1 (h 1)))
  · rintro rfl a
    match a with
    | ⟨0, _⟩ => exact (unit_iff _ _ _ rfl).2 rfl
    | ⟨1, _⟩ => exact (unit_iff _ _ _ rfl).2 rfl
    | ⟨2, _⟩ => exact ⟨Nat.zero_le _, lt_of_lt_of_eq (i 2).isLt (Nat.zero_add _).symm⟩
    | ⟨3, _⟩ => exact ⟨Nat.zero_le _, lt_of_lt_of_eq (i 3).isLt (Nat.zero_add _).symm⟩
theorem yS_mem (kj : Fin 3 × Fin 2) (i : S3x2x1024.Idx) : i ∈ (ySs kj.1 kj.2).view.set ↔ ((i 0, i 1) : Fin 3 × Fin 2) = kj := by
  rw [show (ySs kj.1 kj.2).view.set = (ySR kj.1 kj.2).set from (View.set_reshape _ _).trans (View.set_slice_whole _ _), Rect.mem_set_unit]
  constructor
  · intro h; exact Prod.ext (Fin.ext ((unit_iff _ _ _ rfl).1 (h 0))) (Fin.ext ((unit_iff _ _ _ rfl).1 (h 1)))
  · rintro rfl a
    match a with
    | ⟨0, _⟩ => exact (unit_iff _ _ _ rfl).2 rfl
    | ⟨1, _⟩ => exact (unit_iff _ _ _ rfl).2 rfl
    | ⟨2, _⟩ => exact ⟨Nat.zero_le _, lt_of_lt_of_eq (i 2).isLt (Nat.zero_add _).symm⟩
theorem rQ_mem (pj : Dev nD × Fin 2) (i : S4x2x1024x256.Idx) : i ∈ (rQs pj.1 pj.2).view.set ↔ ((i 0, i 1) : Fin 4 × Fin 2) = pj := by
  rw [show (rQs pj.1 pj.2).view.set = (Rect.unit (s := S4x2x1024x256) ![pj.1.val, pj.2.val, 0, 0] S1x1x1024x256.size (inbRQ pj.1 pj.2)).set from
    (View.set_reshape _ _).trans (View.set_slice_whole _ _), Rect.mem_set_unit]
  constructor
  · intro h; exact Prod.ext (Fin.ext ((unit_iff _ _ _ rfl).1 (h 0))) (Fin.ext ((unit_iff _ _ _ rfl).1 (h 1)))
  · rintro rfl a
    match a with
    | ⟨0, _⟩ => exact (unit_iff _ _ _ rfl).2 rfl
    | ⟨1, _⟩ => exact (unit_iff _ _ _ rfl).2 rfl
    | ⟨2, _⟩ => exact ⟨Nat.zero_le _, lt_of_lt_of_eq (i 2).isLt (Nat.zero_add _).symm⟩
    | ⟨3, _⟩ => exact ⟨Nat.zero_le _, lt_of_lt_of_eq (i 3).isLt (Nat.zero_add _).symm⟩
theorem rS_mem (pj : Dev nD × Fin 2) (i : S4x2x1024.Idx) : i ∈ (rSs pj.1 pj.2).view.set ↔ ((i 0, i 1) : Fin 4 × Fin 2) = pj := by
  rw [show (rSs pj.1 pj.2).view.set = (Rect.unit (s := S4x2x1024) ![pj.1.val, pj.2.val, 0] S1x1x1024.size (inbRS pj.1 pj.2)).set from
    (View.set_reshape _ _).trans (View.set_slice_whole _ _), Rect.mem_set_unit]
  constructor
  · intro h; exact Prod.ext (Fin.ext ((unit_iff _ _ _ rfl).1 (h 0))) (Fin.ext ((unit_iff _ _ _ rfl).1 (h 1)))
  · rintro rfl a
    match a with
    | ⟨0, _⟩ => exact (unit_iff _ _ _ rfl).2 rfl
    | ⟨1, _⟩ => exact (unit_iff _ _ _ rfl).2 rfl
    | ⟨2, _⟩ => exact ⟨Nat.zero_le _, lt_of_lt_of_eq (i 2).isLt (Nat.zero_add _).symm⟩
theorem tSlot_mem (g : Fin 3) (i : S3x1024x512.Idx) : i ∈ (tSlot g).view.set ↔ (i 0 : Fin 3) = g := by
  rw [tSlot_set, Rect.mem_set_unit]
  constructor
  · intro h; exact Fin.ext ((unit_iff _ _ _ rfl).1 (h 0))
  · rintro rfl a
    match a with
    | ⟨0, _⟩ => exact (unit_iff _ _ _ rfl).2 rfl
    | ⟨1, _⟩ => exact ⟨Nat.zero_le _, lt_of_lt_of_eq (i 1).isLt (Nat.zero_add _).symm⟩
    | ⟨2, _⟩ => exact ⟨Nat.zero_le _, lt_of_lt_of_eq (i 2).isLt (Nat.zero_add _).symm⟩
/-- From which device the row of the result comes. -/
def rowOf (i : S4096x512.Idx) : Dev nD := ⟨(i 0).val / 1024, Nat.div_lt_of_lt_mul (i 0).isLt⟩
theorem oR_set (p : Dev nD) : (oR p).view.set = (Rect.unit (s := S4096x512) ![1024 * p.val, 0] S1024x512.size (inbR p)).set := View.set_slice_whole _ _
theorem oR_mem (p : Dev nD) (i : S4096x512.Idx) : i ∈ (oR p).view.set ↔ rowOf i = p := by
  rw [oR_set, Rect.mem_set_unit]
  constructor
  · intro h
    have h0 : 1024 * p.val ≤ (i 0).val ∧ (i 0).val < 1024 * p.val + 1024 := h 0
    exact Fin.ext (show (i 0).val / 1024 = p.val by omega)
  · rintro rfl a
    match a with
    | ⟨0, _⟩ =>
      show 1024 * ((i 0).val / 1024) ≤ (i 0).val ∧ (i 0).val < 1024 * ((i 0).val / 1024) + 1024
      omega
    | ⟨1, _⟩ => exact ⟨Nat.zero_le _, lt_of_lt_of_eq (i 1).isLt (Nat.zero_add _).symm⟩

/-! ## The scratch -/

variable (m : (ℓ : Loc nD τ sig) → Buf (Elt F) ℓ)

abbrev anyB (c : Dev nD) (b : Ref sig .tc) : sProp 𝕄 := iprop(∃ f : Buf (Elt F) ((c : Thread nD τ).loc b), ((c : Thread nD τ).loc b) ↦{fullShare} f)

theorem xV_iff (c : Dev nD) : (anyB (F := F) c cc0_scratch0 : sProp 𝕄) = some' c xV := by unfold some' cpts; rw [View.set_whole]

theorem wSlots_open (c : Dev nD) : (anyB (F := F) c cc0_scratch1 : sProp 𝕄) ⊢ iprop(some' c (wSlot 0) ∗ some' c (wSlot 1)) :=
  (cut_open (ℓ := (c : Thread nD τ).loc cc0_scratch1) (fun b : Fin 2 => (wSlot b).view.set) (fun i : S2x4096x256.Idx => i 0) wSlot_mem).trans (Entails.of_eq (all_two _))
include m in
theorem wSlots_close (c : Dev nD) : iprop(some' c (wSlot 0) ∗ some' c (wSlot 1)) ⊢ (anyB (F := F) c cc0_scratch1 : sProp 𝕄) :=
  (Entails.of_eq (all_two fun b => some' c (wSlot b)).symm).trans
    (cut_close (ℓ := (c : Thread nD τ).loc cc0_scratch1) (fun b : Fin 2 => (wSlot b).view.set) (fun i : S2x4096x256.Idx => i 0) wSlot_mem (m _))
theorem tSlots_open (c : Dev nD) : (anyB (F := F) c cc0_scratch6 : sProp 𝕄) ⊢ iprop(some' c (tSlot 0) ∗ some' c (tSlot 1) ∗ some' c (tSlot 2)) :=
  (cut_open (ℓ := (c : Thread nD τ).loc cc0_scratch6) (fun g : Fin 3 => (tSlot g).view.set) (fun i : S3x1024x512.Idx => i 0) tSlot_mem).trans (Entails.of_eq (all_three _))
include m in
theorem tSlots_close (c : Dev nD) : iprop(some' c (tSlot 0) ∗ some' c (tSlot 1) ∗ some' c (tSlot 2)) ⊢ (anyB (F := F) c cc0_scratch6 : sProp 𝕄) :=
  (Entails.of_eq (all_three fun g => some' c (tSlot g)).symm).trans
    (cut_close (ℓ := (c : Thread nD τ).loc cc0_scratch6) (fun g : Fin 3 => (tSlot g).view.set) (fun i : S3x1024x512.Idx => i 0) tSlot_mem (m _))

theorem outs_open (c : Dev nD) : iprop(anyB (F := F) c cc0_scratch2 ∗ anyB c cc0_scratch3) ⊢ (six (outs c) : sProp 𝕄) := by
  refine (BI.sep_mono (cut_open (ℓ := (c : Thread nD τ).loc cc0_scratch2) (fun kj : Fin 3 × Fin 2 => (yQs kj.1 kj.2).view.set) (fun i : S3x2x1024x256.Idx => (i 0, i 1)) yQ_mem)
    (cut_open (ℓ := (c : Thread nD τ).loc cc0_scratch3) (fun kj : Fin 3 × Fin 2 => (ySs kj.1 kj.2).view.set) (fun i : S3x2x1024.Idx => (i 0, i 1)) yS_mem)).trans ?_
  exact Entails.of_eq ((bigSep_sep' Finset.univ (fun kj : Fin 3 × Fin 2 => outQ c kj.1 kj.2) (fun kj => outS c kj.1 kj.2)).symm.trans (all_six _))
include m in
theorem outs_close (c : Dev nD) : (six (outs c) : sProp 𝕄) ⊢ iprop(anyB (F := F) c cc0_scratch2 ∗ anyB c cc0_scratch3) :=
  (Entails.of_eq ((bigSep_sep' Finset.univ (fun kj : Fin 3 × Fin 2 => outQ c kj.1 kj.2) (fun kj => outS c kj.1 kj.2)).symm.trans (all_six _)).symm).trans
    (BI.sep_mono (cut_close (ℓ := (c : Thread nD τ).loc cc0_scratch2) (fun kj : Fin 3 × Fin 2 => (yQs kj.1 kj.2).view.set) (fun i : S3x2x1024x256.Idx => (i 0, i 1)) yQ_mem (m _))
      (cut_close (ℓ := (c : Thread nD τ).loc cc0_scratch3) (fun kj : Fin 3 × Fin 2 => (ySs kj.1 kj.2).view.set) (fun i : S3x2x1024.Idx => (i 0, i 1)) yS_mem (m _)))

/-- All landing slots of a device. -/
theorem all_free (c : Dev nD) :
    iprop((bigSep Finset.univ fun pj : Dev nD × Fin 2 => freeQ c pj.1 pj.2) ∗ bigSep Finset.univ fun pj : Dev nD × Fin 2 => freeS c pj.1 pj.2)
      = (bigSep Finset.univ fun p : Dev nD => free4 (F := F) c p : sProp 𝕄) := by
  rw [← bigSep_sep', bigSep_univ_prod]
  exact bigSep_congr fun p _ => by unfold free4; rw [all_two]
theorem lands_open (c : Dev nD) : iprop(anyB (F := F) c cc0_scratch4 ∗ anyB c cc0_scratch5) ⊢ (iprop(free4 c c ∗ free4 c (dst c 0) ∗ free4 c (dst c 1) ∗ free4 c (dst c 2)) : sProp 𝕄) := by
  rw [← all_dst c fun p => free4 c p, ← all_free]
  exact BI.sep_mono (cut_open (ℓ := (c : Thread nD τ).loc cc0_scratch4) (fun pj : Dev nD × Fin 2 => (rQs pj.1 pj.2).view.set) (fun i : S4x2x1024x256.Idx => (i 0, i 1)) rQ_mem)
    (cut_open (ℓ := (c : Thread nD τ).loc cc0_scratch5) (fun pj : Dev nD × Fin 2 => (rSs pj.1 pj.2).view.set) (fun i : S4x2x1024.Idx => (i 0, i 1)) rS_mem)
theorem slotQ_free (c : Dev nD) (p : Fin 4) (j : Fin 2) (v : Vec F S1x1x1024x256 .i8) : slotQ c p j v ⊢ freeQ c p j := by
  unfold slotQ freeQ; iintro ⟨%f, -, H⟩; iexists f; iexact H
theorem slotS_free (c : Dev nD) (p : Fin 4) (j : Fin 2) (v : Vec F S1x1x1024 .f32) : slotS c p j v ⊢ freeS c p j := by
  unfold slotS freeS; iintro ⟨%f, -, H⟩; iexists f; iexact H
theorem filled_free (c : Dev nD) (k : Fin 3) : iprop(filled m c k 0 ∗ filled m c k 1) ⊢ free4 c (src c k) := by
  unfold filled free4
  exact BI.sep_mono (BI.sep_mono (slotQ_free _ _ _ _) (slotS_free _ _ _ _)) (BI.sep_mono (slotQ_free _ _ _ _) (slotS_free _ _ _ _))
theorem lands_close (c : Dev nD) : iprop(free4 c c ∗ six (filled m c)) ⊢ iprop(anyB (F := F) c cc0_scratch4 ∗ anyB c cc0_scratch5) := by
  refine (BI.sep_mono (Entails.refl _) (BI.sep_mono (filled_free m c 0) (BI.sep_mono (filled_free m c 1) (filled_free m c 2)))).trans ?_
  refine (Entails.of_eq ((all_free c).trans (all_src c fun p => free4 c p)).symm).trans ?_
  exact BI.sep_mono (cut_close (ℓ := (c : Thread nD τ).loc cc0_scratch4) (fun pj : Dev nD × Fin 2 => (rQs pj.1 pj.2).view.set) (fun i : S4x2x1024x256.Idx => (i 0, i 1)) rQ_mem (m _))
    (cut_close (ℓ := (c : Thread nD τ).loc cc0_scratch5) (fun pj : Dev nD × Fin 2 => (rSs pj.1 pj.2).view.set) (fun i : S4x2x1024.Idx => (i 0, i 1)) rS_mem (m _))

/-! ## The result -/

/-- What the rows of device `c`'s result from `p` hold at the end. -/
def outV (c p : Dev nD) : Vec F S1024x512 .f32 :=
  if p = c then ownV m c else both (dq (tS m p c 0) (tQ m p c 0)) (dq (tS m p c 1) (tQ m p c 1))
theorem outV_own (c : Dev nD) : outV m c c = ownV m c := if_pos rfl
theorem outV_src (c : Dev nD) (k : Fin 3) : outV m c (src c k) = fromV m c k := if_neg (src_ne c k)

theorem rows_open (c : Dev nD) : (anyB (F := F) c main_v1 : sProp 𝕄) ⊢ iprop(some' c (oR c) ∗ some' c (oR (src c 0)) ∗ some' c (oR (src c 1)) ∗ some' c (oR (src c 2))) :=
  (cut_open (ℓ := (c : Thread nD τ).loc main_v1) (fun p : Dev nD => (oR p).view.set) rowOf oR_mem).trans (Entails.of_eq (all_src c _))

/-- Rows each at their own value are the whole result, at contents of which these are the rows. -/
theorem rows_close (c : Dev nD) :
    iprop(holds c (oR c) (ownV m c) ∗ holds c (oR (src c 0)) (fromV m c 0) ∗ holds c (oR (src c 1)) (fromV m c 1) ∗ holds c (oR (src c 2)) (fromV m c 2))
      ⊢ (iprop(∃ f : Buf (Elt F) ((c : Thread nD τ).loc main_v1), ⌜∀ p : Dev nD, (oR p).view.read (Elt F) f = outV m c p⌝ ∗ ((c : Thread nD τ).loc main_v1) ↦{fullShare} f) : sProp 𝕄) := by
  rw [← outV_own, ← outV_src, ← outV_src, ← outV_src, ← all_src c fun p => holds c (oR p) (outV m c p)]
  have : Nonempty (Buf (Elt F) ((c : Thread nD τ).loc main_v1)) := ⟨m _⟩
  unfold holds
  refine (BI.bigSep_exists_pi Finset.univ (fun (p : Dev nD) (f : Buf (Elt F) ((c : Thread nD τ).loc main_v1)) =>
    (iprop(⌜(oR p).view.read (Elt F) f = outV m c p⌝ ∗ ((c : Thread nD τ).loc main_v1) ↦[(oR p).view.set]{fullShare} f) : sProp 𝕄))).trans ?_
  iintro ⟨%fs, H⟩
  ihave H := (bigSep_pure_sep Finset.univ (fun p : Dev nD => (oR p).view.read (Elt F) (fs p) = outV m c p) _) $$ H
  icases H with ⟨%hp, H⟩
  ihave H := (pointsTo_biUnion_join Finset.univ (fun p : Dev nD => (oR p).view.set) fs (m _) (fun b _ b' _ h => cut_disj (ℓ := (c : Thread nD τ).loc main_v1) (fun p : Dev nD => (oR p).view.set) rowOf oR_mem b b' h)) $$ H
  icases H with ⟨%g, %hg, H⟩
  iexists g
  isplitr
  · ipureintro
    intro p
    rw [← hp p (Finset.mem_univ p)]
    exact View.read_congr fun i hi => hg p (Finset.mem_univ p) i hi
  rw [cut_cover (ℓ := (c : Thread nD τ).loc main_v1) (fun p : Dev nD => (oR p).view.set) rowOf oR_mem]
  iexact H

end Cert.KernelIdeal.A2A

end
-- ==== Proof.Ghost.lean ====
/- The ghost state dealt at the launch: for every cell of every device its round and its invariant, for every device its
   positions, its tokens, its credit and its own semaphores. -/
module

public import proofs.«01_k».proof.Proof.Slots

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Named F]

local notation "𝕄" => MT nD τ sig Unit (Elt F) ℕ UU ℕ

variable (m : (ℓ : Loc nD τ sig) → Buf (Elt F) ℓ)

/-! ## Conjunctions over the cells -/

theorem six_sep (Φ Ψ : Fin 3 → Fin 2 → sProp 𝕄) : iprop(six Φ ∗ six Ψ) = six fun k j => iprop(Φ k j ∗ Ψ k j) := by
  rw [← all_six fun kj => Φ kj.1 kj.2, ← all_six fun kj => Ψ kj.1 kj.2, ← all_six fun kj => iprop(Φ kj.1 kj.2 ∗ Ψ kj.1 kj.2)]
  exact (bigSep_sep' _ _ _).symm
theorem all_sum {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ
theorem all_bool (Φ : Bool → sProp 𝕄) : bigSep Finset.univ Φ = iprop(Φ false ∗ Φ true) := bigSep_univ_eq_bigSepL [false, true] (by decide) (by decide) Φ
theorem all_quad (Φ : Bool × Bool × Fin 3 × Fin 2 → sProp 𝕄) :
    bigSep Finset.univ Φ = iprop(((six fun k j => Φ (false, false, k, j)) ∗ six fun k j => Φ (false, true, k, j))
      ∗ (six fun k j => Φ (true, false, k, j)) ∗ six fun k j => Φ (true, true, k, j)) := by
  rw [bigSep_univ_prod, all_bool, bigSep_univ_prod, bigSep_univ_prod, all_bool, all_bool, all_six, all_six, all_six, all_six]
theorem all_option (Φ : CI → sProp 𝕄) : bigSep Finset.univ Φ = iprop(Φ none ∗ bigSep Finset.univ fun x => Φ (some x)) := by
  rw [bigSep_univ_at Φ none, show (Finset.univ.erase none : Finset CI) = Finset.univ.map Function.Embedding.some from by decide +kernel, bigSep_map]
  rfl

/-! ## The semaphores -/

/-- A device's semaphores but the barrier: those it uses alone, those it shares. -/
abbrev KI : Type := LI ⊕ (Bool × Bool × Fin 3 × Fin 2)
def osemC (c : Dev nD) : KI → SemLoc sig := Sum.elim (lsem c) fun x => csem c (some x)
/-- The same in one order for all devices. -/
def osem : KI → SemLoc sig := osemC 0

theorem osemC_inj : ∀ c, Function.Injective (osemC c) := by unfold Function.Injective; decide +kernel
theorem osemC_image : ∀ c, Finset.univ.image (osemC c) = Finset.univ.image osem := by decide +kernel
theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop((bigSep Finset.univ fun x : LI => zl c x) ∗ bigSep Finset.univ fun x : Bool × Bool × Fin 3 × Fin 2 => semVal (kcell (c, some x)) 0) := by
  unfold Pipeline.ownSems0
  rw [← bigSep_image_of_injOn (f := osem) (fun a _ b _ h => osemC_inj 0 h) (fun sm => semVal ((c : Thread nD τ), sm) 0), ← osemC_image c,
    bigSep_image_of_injOn (f := osemC c) (fun a _ b _ h => osemC_inj c h)]
  exact all_sum _
theorem unscopedSems0_eq (c : Dev nD) : (unscopedSems0 c : sProp 𝕄) = semVal (kcell (c, none)) 0 := by
  unfold unscopedSems0; rw [bigSep_eq_bigSepL_of_eq [SemLoc.reg barS] (by decide +kernel) (by decide)]; rfl

/-- All semaphores of a device at zero. -/
def sems (c : Dev nD) : sProp 𝕄 := iprop((bigSep Finset.univ fun i : CI => semVal (kcell (c, i)) 0) ∗ bigSep Finset.univ fun x : LI => zl c x)
theorem sems_open (c : Dev nD) : iprop(Pipeline.ownSems0 (Ix := Unit) (Name := ℕ) (U := UU) (Lvl := ℕ) (Val := Elt F) (τ := τ) osem c ∗ unscopedSems0 c) ⊢ (sems c : sProp 𝕄) := by
  unfold sems
  rw [ownSems0_eq, unscopedSems0_eq, all_option]
  iintro ⟨⟨HL, HS⟩, HB⟩
  isplitr [HL]
  · isplitl [HB]; · iexact HB
    iexact HS
  iexact HL
theorem sems_close (c : Dev nD) : (sems c : sProp 𝕄) ⊢ iprop(unscopedSems0 c ∗ Pipeline.ownSems0 (Ix := Unit) (Name := ℕ) (U := UU) (Lvl := ℕ) (Val := Elt F) (τ := τ) osem c) := by
  unfold sems
  rw [ownSems0_eq, unscopedSems0_eq, all_option]
  iintro ⟨⟨HB, HS⟩, HL⟩
  isplitl [HB]; · iexact HB
  isplitl [HL]; · iexact HL
  iexact HS

/-! ## The tokens -/

/-- A device's tokens: one at each other's barrier; for each half and each of codes and scales one at its own cell, one at
    the receiver's. -/
abbrev TI : Type := Fin 3 ⊕ (Bool × Bool × Fin 3 × Fin 2)
def tokAt (p : Dev nD) : TI → (Dev nD × CI) × Fin 3
  | .inl i => ((dst p i, none), Fin.rev i)
  | .inr (false, x) => ((p, some (false, x)), 0)
  | .inr (true, d, k, j) => ((dst p k, some (true, d, k, j)), 0)
set_option synthInstance.maxHeartbeats 400000 in
set_option synthInstance.maxSize 2000 in
theorem tokAt_inj' : ∀ (p q : Dev nD) (s t : TI), tokAt p s = tokAt q t → p = q ∧ s = t := by
  unfold TI; decide +kernel
theorem tokAt_inj (a b : Dev nD × TI) (h : tokAt a.1 a.2 = tokAt b.1 b.2) : a = b := Prod.ext (tokAt_inj' _ _ _ _ h).1 (tokAt_inj' _ _ _ _ h).2
def tok (pt : Dev nD × TI) : GSem nD τ sig × ℕ × Fin 3 := (kcell (tokAt pt.1 pt.2).1, 0, (tokAt pt.1 pt.2).2)
theorem tok_inj : Function.Injective tok := fun a b h => tokAt_inj a b (Prod.ext (kcell_inj (congrArg Prod.fst h)) (congrArg (fun x => x.2.2) h))

def allCells : Finset (GSem nD τ sig) := Finset.univ.map ⟨kcell, kcell_inj⟩
def allToks : Finset (GSem nD τ sig × ℕ × Fin 3) := Finset.univ.map ⟨tok, tok_inj⟩

def u₀ : UU := (initOf (Pipeline.cells cfgs cellOf_inj) (Pipeline.launchToks cfgs cellOf_inj), (initOf allCells allToks, 1))

/-- What the launch's element deals device `c`. -/
def G (c : Dev nD) : sProp 𝕄 :=
  iprop((bigSep Finset.univ fun i : CI => roundState ER (Rd m) (kcell (c, i)) 0) ∗ (bigSep Finset.univ fun i : CI => reached ER (kcell (c, i)) 0)
    ∗ (bigSep Finset.univ fun i : CI => atPos ER (kcell (c, i)) 0 ∅ 0) ∗ bigSep Finset.univ fun t : TI => dutyTok ER (tok (c, t)).1 (tok (c, t)).2.1 (tok (c, t)).2.2)

/-- A device's positions, tokens and own semaphores. -/
def lin (c : Dev nD) : sProp 𝕄 :=
  iprop((bigSep Finset.univ fun i : CI => atPos ER (kcell (c, i)) 0 ∅ 0) ∗ (bigSep Finset.univ fun t : TI => dutyTok ER (tok (c, t)).1 (tok (c, t)).2.1 (tok (c, t)).2.2)
    ∗ bigSep Finset.univ fun x : LI => zl c x)
def G' (c : Dev nD) : sProp 𝕄 := iprop(∃ K, records m K ∗ lin c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => bigSep Finset.univ fun t : TI => dutyTok ER (tok (c, t)).1 (tok (c, t)).2.1 (tok (c, t)).2.2 := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (kcell (c, i)) ∗ reached ER (kcell (c, i)) 0)) ∗ lin c) := by
  unfold G lin
  iintro ⟨Hos, Hus, Hst, Hr, Hat, Htok⟩
  ihave Hv := (sems_open (F := F) c) $$ [Hos Hus]
  · isplitl [Hos]; · iexact Hos
    iexact Hus
  unfold sems
  icases Hv with ⟨Hv, Hl⟩
  imod (show iprop((bigSep Finset.univ fun i : CI => semVal (kcell (c, i)) 0) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv]; · iexact Hv
    iexact Hst
  imodintro
  isplitl [Hinv Hr]
  · have hj : iprop((bigSep Finset.univ fun i : CI => iprop(∃ κ : ℕ, cellInv ER (Rd m) κ (kcell (c, i)))) ∗ bigSep Finset.univ fun i : CI => reached ER (kcell (c, i)) 0)
        ⊢ (bigSep Finset.univ fun i : CI => iprop(∃ κ : ℕ, cellInv ER (Rd m) κ (kcell (c, i)) ∗ reached ER (kcell (c, i)) 0) : sProp 𝕄) := by
      rw [← bigSep_sep']
      refine bigSep_mono fun i _ => ?_
      show iprop((∃ κ : ℕ, cellInv ER (Rd m) κ (kcell (c, i))) ∗ reached ER (kcell (c, i)) 0) ⊢ (iprop(∃ κ : ℕ, cellInv ER (Rd m) κ (kcell (c, i)) ∗ reached ER (kcell (c, i)) 0) : sProp 𝕄)
      iintro ⟨⟨%κ, H⟩, Hr⟩
      iexists κ
      isplitl [H]; · iexact H
      iexact Hr
    iapply hj
    isplitl [Hinv]; · iexact Hinv
    iexact Hr
  isplitl [Hat]; · iexact Hat
  isplitl [Htok]; · iexact Htok
  iexact Hl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd m) κ (kcell (c, i)) ∗ reached ER (kcell (c, i)) 0)) ∗ lin c) : sProp 𝕄)
      ⊢ bigSep Finset.univ (G' m) := by
  rw [bigSep_sep', ← bigSep_univ_prod (fun ci : Dev nD × CI => iprop(∃ κ : ℕ, cellInv ER (Rd m) κ (kcell ci) ∗ reached ER (kcell ci) 0))]
  iintro ⟨HI, Hl⟩
  ihave HK := (BI.bigSep_exists_pi Finset.univ (fun (ci : Dev nD × CI) (κ : ℕ) => (iprop(cellInv ER (Rd m) κ (kcell ci) ∗ reached ER (kcell ci) 0) : sProp 𝕄))) $$ HI
  icases HK with ⟨%K, HI⟩
  iapply (with_persistent (R := records m K) (Φ := lin) fun c _ => show iprop(records m K ∗ lin c) ⊢ G' m c from by
    unfold G'; iintro H; iexists K; iexact H)
  isplitl [HI]
  · unfold records recd; iexact HI
  iexact Hl

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem owed_count (l : List (Dev nD × CI)) (x : Dev nD × CI) : owed l (kcell x) () = amt x.2 * l.count x := by
  induction l with
  | nil => rfl
  | cons y l ih =>
    unfold owed
    rw [Pi.add_apply, Finsupp.add_apply, ih, tallyAt_apply, List.count_cons]
    by_cases h : y = x
    · subst h; rw [if_pos ⟨rfl, rfl⟩, if_pos (beq_self_eq_true _), Nat.mul_add, Nat.mul_one]
    · rw [if_neg fun e => h (kcell_inj e.1).symm, if_neg (by rw [beq_iff_eq]; exact h)]; rfl
/-- How many duties of a cell the devices owe at the launch. -/
def num : CI → ℕ
  | none => 3
  | some (true, _) => 1
  | some (false, _) => 0
theorem count_all : ∀ (c : Dev nD) (i : CI), ∑ d : Dev nD, (dueCells d).count (c, i) = num i := by decide +kernel

theorem credit_k (c : Dev nD) (i : CI) :
    tallyOn (kcell (c, i)) (launchCredit (Pipeline.owing O₀) 0 (kcell (c, i))) = (tallyAt (kcell (c, i)) () (amt i * num i) : CellTallies nD τ sig Unit) := by
  unfold tallyAt; refine congrArg _ (Finsupp.ext fun u => ?_); cases u
  rw [Pipeline.launchCredit_owing, Finsupp.single_eq_same, Finset.sum_congr rfl fun d _ => show O₀ d (kcell (c, i)) () = _ from owed_count (dueCells d) (c, i), ← Finset.mul_sum, count_all]

/-- A device's credit: three units at its barrier, each landing transfer's. -/
def creds (c : Dev nD) : sProp 𝕄 :=
  iprop(cred (tallyAt (kcell (c, none)) () 3) ∗ six fun k j => iprop(cred (tallyAt (kcell (c, some (true, false, k, j))) () NQ) ∗ cred (tallyAt (kcell (c, some (true, true, k, j))) () NS)))

theorem creds_intro (c : Dev nD) : (Pipeline.launchCred O₀ c : sProp 𝕄) ⊢ creds c := by
  unfold Pipeline.launchCred creds
  refine (bigSep_subset (Finset.subset_univ (Finset.univ.image (csem c)))).trans ?_
  rw [bigSep_image_of_injOn (f := csem c) (fun a _ b _ h => csem_inj c h), bigSep_congr fun i _ => show _ = (cred (tallyAt (kcell (c, i)) () (amt i * num i)) : sProp 𝕄) from congrArg cred (credit_k c i),
    all_option, all_quad, ← six_sep]
  show iprop(cred (tallyAt (kcell (c, none)) () 3) ∗ ((six fun k j => cred (tallyAt (kcell (c, some (false, false, k, j))) () (NQ * 0))) ∗ six fun k j => cred (tallyAt (kcell (c, some (false, true, k, j))) () (NS * 0)))
      ∗ (six fun k j => cred (tallyAt (kcell (c, some (true, false, k, j))) () (NQ * 1))) ∗ six fun k j => cred (tallyAt (kcell (c, some (true, true, k, j))) () (NS * 1)))
    ⊢ (iprop(cred (tallyAt (kcell (c, none)) () 3) ∗ (six fun k j => cred (tallyAt (kcell (c, some (true, false, k, j))) () NQ)) ∗ six fun k j => cred (tallyAt (kcell (c, some (true, true, k, j))) () NS)) : sProp 𝕄)
  rw [Nat.mul_one, Nat.mul_one]
  iintro ⟨HB, -, HQ, HS⟩
  isplitl [HB]; · iexact HB
  isplitl [HQ]
  · iexact HQ
  iexact HS

/-- The semaphores of the receiving arrays that a device never uses: of what would come from itself. -/
def idle (c : Dev nD) : sProp 𝕄 := bigSep Finset.univ fun x : Bool × Fin 2 => zl c (.inr x)
theorem all_local (c : Dev nD) : (bigSep Finset.univ fun x : LI => zl (F := F) c x : sProp 𝕄)
    = iprop((zl c (.inl 0) ∗ zl c (.inl 1) ∗ zl c (.inl 2) ∗ zl c (.inl 3) ∗ zl c (.inl 4) ∗ zl c (.inl 5)) ∗ idle c) := by
  refine (all_sum _).trans ?_
  rw [bigSep_univ_eq_bigSepL [(0 : Fin 6), 1, 2, 3, 4, 5] (by decide) (by decide)]
  rfl

theorem talk_intro (c : Dev nD) : iprop(lin c ∗ creds c) ⊢ (iprop(talk c ∗ locals c ∗ idle c) : sProp 𝕄) := by
  unfold lin creds talk locals toks credR
  rw [all_local, all_option, all_quad, ← six_sep, ← six_sep, ← six_sep, ← six_sep, ← six_sep, ← six_sep, ← six_sep, ← six_sep]
  iintro ⟨⟨⟨HaB, ⟨⟨Ha1, Ha2⟩, Ha3, Ha4⟩⟩, Ht, ⟨⟨H0, H1, H2, H3, H4, H5⟩, Hi⟩⟩, Hc, Hq, Hs⟩
  ihave Ht := (Entails.of_eq (all_sum _)) $$ Ht
  icases Ht with ⟨Hb, Ht⟩
  ihave Hb := (Entails.of_eq (all_three _)) $$ Hb
  ihave Ht := (Entails.of_eq (all_quad _)) $$ Ht
  icases Ht with ⟨⟨Ht1, Ht2⟩, Ht3, Ht4⟩
  isplitr [H0 H1 H2 H3 H4 H5 Hi]
  · isplitl [Hc HaB]
    · isplitl [Hc]; · iexact Hc
      iexact HaB
    isplitl [Hb]; · iexact Hb
    isplitl [Ht1 Ht2 Ht3 Ht4]
    · isplitl [Ht1 Ht3]
      · isplitl [Ht1]; · iexact Ht1
        iexact Ht3
      isplitl [Ht2]; · iexact Ht2
      iexact Ht4
    isplitl [Hq Hs Ha3 Ha4]
    · isplitl [Hq Hs]
      · isplitl [Hq]; · iexact Hq
        iexact Hs
      isplitl [Ha3]; · iexact Ha3
      iexact Ha4
    isplitl [Ha1]; · iexact Ha1
    iexact Ha2
  isplitr [Hi]
  · isplitl [H0]; · iexact H0
    isplitl [H1 H2]
    · isplitl [H1]; · iexact H1
      iexact H2
    isplitl [H3]; · iexact H3
    isplitl [H4]; · iexact H4
    iexact H5
  iexact Hi

/-- After the body all semaphores are at zero. -/
theorem sems_after (c : Dev nD) : (iprop(quiet c ∗ locals c ∗ idle c) : sProp 𝕄) ⊢ sems c := by
  unfold quiet locals sems closedR
  rw [all_local, all_option, all_quad, ← six_sep, ← six_sep]
  iintro ⟨⟨HB, ⟨Ha1, Ha2⟩, Ha3, Ha4⟩, ⟨H0, ⟨H1, H2⟩, H3, H4, H5⟩, Hi⟩
  isplitl [HB Ha1 Ha2 Ha3 Ha4]
  · isplitl [HB]; · iexact HB
    isplitl [Ha1 Ha2]
    · isplitl [Ha1]; · iexact Ha1
      iexact Ha2
    isplitl [Ha3]; · iexact Ha3
    iexact Ha4
  isplitr [Hi]
  · isplitl [H0]; · iexact H0
    isplitl [H1]; · iexact H1
    isplitl [H2]; · iexact H2
    isplitl [H3]; · iexact H3
    isplitl [H4]; · iexact H4
    iexact H5
  iexact Hi

end Cert.KernelIdeal.A2A

end
-- ==== Proof.Body.lean ====
/- The body of one device, from what it starts with to what it leaves. -/
module

public import proofs.«01_k».proof.Proof.Steps

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Named F]

local notation "𝕄" => MT nD τ sig Unit (Elt F) ℕ UU ℕ

variable (m : (ℓ : Loc nD τ sig) → Buf (Elt F) ℓ) (K : Dev nD × CI → ℕ)

set_option maxHeartbeats 1600000 in
set_option maxRecDepth 8000 in
/-- The body of device `c`. -/
theorem wp_flat (c : Dev nD) (Q : PUnit → sProp 𝕄) : iprop(pre m K c ∗ (post m c -∗ Q ⟨⟩)) ⊢ WP c (flat c) Q := by
  unfold pre post quiet talk mine locals given free4 flat
  iintro ⟨⟨#HRL, HO, ⟨⟨HcB, HaB⟩, ⟨Hb0, Hb1, Hb2⟩, ⟨⟨Ht00, Ht01⟩, ⟨Ht10, Ht11⟩, ⟨Ht20, Ht21⟩⟩, ⟨⟨Hr00, Hr01⟩, ⟨Hr10, Hr11⟩, ⟨Hr20, Hr21⟩⟩,
      ⟨⟨Hs00, Hs01⟩, ⟨Hs10, Hs11⟩, ⟨Hs20, Hs21⟩⟩⟩, ⟨Hf0, Hf1, Hf2⟩,
    ⟨HxV, ⟨Hw0, Hw1⟩, ⟨⟨Ho00, Ho01⟩, ⟨Ho10, Ho11⟩, ⟨Ho20, Ho21⟩⟩, ⟨Hg0, Hg1, Hg2⟩⟩,
    ⟨Hzx, ⟨Hzw0, Hzw1⟩, ⟨Hzo0, Hzo1, Hzo2⟩⟩, ⟨Hx, ⟨HwL, HwR⟩, ⟨Hsx, Hsw⟩⟩, ⟨HrC, HrS0, HrS1, HrS2⟩⟩, Hk⟩
  icases HRL with ⟨#HR, #HL⟩
  -- the operand's copy and the first columns' copy
  iapply (wp_copy c fullShare xH xV (.dma cc0_scratch7.sem) (m ((c : Thread nD τ).loc main_arg0)) (View.dmaCredit_pos _ (by decide))) $$ [Hx HxV Hzx]
  · isplitl [Hx]; · iexact Hx
    isplitl [HxV]; · iexact HxV
    iexact Hzx
  iintro Hx
  iapply (wp_wStart m c fullShare.left (k0_off1 c 0#32 0#32) (k0_off1_inb c 0 0) 0) $$ [HwL Hw0 Hzw0]
  · isplitl [HwL]; · iexact HwL
    isplitl [Hw0]; · iexact Hw0
    iexact Hzw0
  iintro HwL
  -- the barrier
  iapply (wp_sig m K c 0 _ (Fin.ext (k0_dev1_eq c)) ((dst c 1, none) :: (dst c 2, none) :: sends c [(0, 0), (0, 1), (1, 0), (1, 1), (2, 0), (2, 1)])) $$ [HO Hb0 Hf0]
  · isplitr; · iexact HR
    isplitl [HO]; · iexact HO
    isplitl [Hb0]; · iexact Hb0
    unfold free4; iexact Hf0
  iintro HO
  iapply (wp_sig m K c 1 _ (Fin.ext (k0_dev2_eq c)) ((dst c 2, none) :: sends c [(0, 0), (0, 1), (1, 0), (1, 1), (2, 0), (2, 1)])) $$ [HO Hb1 Hf1]
  · isplitr; · iexact HR
    isplitl [HO]; · iexact HO
    isplitl [Hb1]; · iexact Hb1
    unfold free4; iexact Hf1
  iintro HO
  iapply (wp_sig m K c 2 _ (Fin.ext (k0_dev3_eq c)) (sends c [(0, 0), (0, 1), (1, 0), (1, 1), (2, 0), (2, 1)])) $$ [HO Hb2 Hf2]
  · isplitr; · iexact HR
    isplitl [HO]; · iexact HO
    isplitl [Hb2]; · iexact Hb2
    unfold free4; iexact Hf2
  iintro HO
  iapply (wp_bar m K c (sends c [(0, 0), (0, 1), (1, 0), (1, 1), (2, 0), (2, 1)]) (sends_lvl c _)) $$ [HO HcB HaB]
  · isplitr; · iexact HR
    isplitr; · iexact HL
    isplitl [HO]; · iexact HO
    isplitl [HcB]; · iexact HcB
    iexact HaB
  unfold free4
  iintro ⟨HO, HzB, ⟨Hf00, Hf01⟩, ⟨Hf10, Hf11⟩, ⟨Hf20, Hf21⟩⟩
  -- the scalars and the operand
  iapply (wp_sx m c) $$ Hsx
  iintro Hsx
  iapply (wp_sw m c) $$ Hsw
  iintro Hsw
  dsimp only
  iapply (wp_copied c fullShare xH xV xH cc0_scratch7.sem _ _ (sends_pos c _) (lv_x c)) $$ [Hx HO]
  · isplitr; · iexact HL
    isplitl [Hx]; · iexact Hx
    iexact HO
  iintro ⟨HxV, Hx, Hzx, HO⟩
  iapply (wp_xV m c) $$ HxV
  iintro HxV
  dsimp only
  -- the six halves
  iapply (wp_step m K c 0 0 0 1 fullShare.left fullShare.right _ (k0_off1_inb c 0 0) (at_off1 c 0 0) _ (k0_off1_inb c 0 1) _ _ (Fin.ext (k0_dev4_eq c)) (Fin.ext (k0_dev5_eq c))
      _ (k0_off3_inb c) (k0_off3_wordsi8 c) (k0_off3_eq c) _ (k0_off4_inb c) (k0_off4_eq c) _ (k0_off2_inb c) (k0_off2_eq c) (sends c [(0, 1), (1, 0), (1, 1), (2, 0), (2, 1)]) (sends_pos c _)) $$ [HO Ht00 Ho00 Hf00 HwL HwR Hw1 Hzw1]
  · isplitr
    · isplitr; · iexact HR
      iexact HL
    isplitl [HO]; · iexact HO
    isplitl [Ht00]; · iexact Ht00
    isplitl [Ho00]; · iexact Ho00
    isplitl [Hf00]; · iexact Hf00
    isplitl [HwL]; · iexact HwL
    isplitl [HwR]; · iexact HwR
    isplitl [Hw1]; · iexact Hw1
    iexact Hzw1
  iintro ⟨HO, Hc00, HwR, HwL, Hw0, Hzw0⟩
  iapply (wp_step m K c 0 1 1 0 fullShare.right fullShare.left _ (k0_off1_inb c 0 1) (at_off1 c 0 1) _ (k0_off1_inb c 1 0) _ _ (Fin.ext (k0_dev6_eq c)) (Fin.ext (k0_dev7_eq c))
      _ (k0_off6_inb c) (k0_off6_wordsi8 c) (k0_off6_eq c) _ (k0_off7_inb c) (k0_off7_eq c) _ (k0_off5_inb c) (k0_off5_eq c) (sends c [(1, 0), (1, 1), (2, 0), (2, 1)]) (sends_pos c _)) $$ [HO Ht01 Ho01 Hf01 HwR HwL Hw0 Hzw0]
  · isplitr
    · isplitr; · iexact HR
      iexact HL
    isplitl [HO]; · iexact HO
    isplitl [Ht01]; · iexact Ht01
    isplitl [Ho01]; · iexact Ho01
    isplitl [Hf01]; · iexact Hf01
    isplitl [HwR]; · iexact HwR
    isplitl [HwL]; · iexact HwL
    isplitl [Hw0]; · iexact Hw0
    iexact Hzw0
  iintro ⟨HO, Hc01, HwL, HwR, Hw1, Hzw1⟩
  iapply (wp_step m K c 1 0 0 1 fullShare.left fullShare.right _ (k0_off1_inb c 1 0) (at_off1 c 1 0) _ (k0_off1_inb c 1 1) _ _ (Fin.ext (k0_dev8_eq c)) (Fin.ext (k0_dev9_eq c))
      _ (k0_off3_inb c) (k0_off3_wordsi8 c) (k0_off3_eq c) _ (k0_off4_inb c) (k0_off4_eq c) _ (k0_off2_inb c) (k0_off2_eq c) (sends c [(1, 1), (2, 0), (2, 1)]) (sends_pos c _)) $$ [HO Ht10 Ho10 Hf10 HwL HwR Hw1 Hzw1]
  · isplitr
    · isplitr; · iexact HR
      iexact HL
    isplitl [HO]; · iexact HO
    isplitl [Ht10]; · iexact Ht10
    isplitl [Ho10]; · iexact Ho10
    isplitl [Hf10]; · iexact Hf10
    isplitl [HwL]; · iexact HwL
    isplitl [HwR]; · iexact HwR
    isplitl [Hw1]; · iexact Hw1
    iexact Hzw1
  iintro ⟨HO, Hc10, HwR, HwL, Hw0, Hzw0⟩
  iapply (wp_step m K c 1 1 1 0 fullShare.right fullShare.left _ (k0_off1_inb c 1 1) (at_off1 c 1 1) _ (k0_off1_inb c 2 0) _ _ (Fin.ext (k0_dev10_eq c)) (Fin.ext (k0_dev11_eq c))
      _ (k0_off6_inb c) (k0_off6_wordsi8 c) (k0_off6_eq c) _ (k0_off7_inb c) (k0_off7_eq c) _ (k0_off5_inb c) (k0_off5_eq c) (sends c [(2, 0), (2, 1)]) (sends_pos c _)) $$ [HO Ht11 Ho11 Hf11 HwR HwL Hw0 Hzw0]
  · isplitr
    · isplitr; · iexact HR
      iexact HL
    isplitl [HO]; · iexact HO
    isplitl [Ht11]; · iexact Ht11
    isplitl [Ho11]; · iexact Ho11
    isplitl [Hf11]; · iexact Hf11
    isplitl [HwR]; · iexact HwR
    isplitl [HwL]; · iexact HwL
    isplitl [Hw0]; · iexact Hw0
    iexact Hzw0
  iintro ⟨HO, Hc11, HwL, HwR, Hw1, Hzw1⟩
  iapply (wp_step m K c 2 0 0 1 fullShare.left fullShare.right _ (k0_off1_inb c 2 0) (at_off1 c 2 0) _ (k0_off1_inb c 2 1) _ _ (Fin.ext (k0_dev12_eq c)) (Fin.ext (k0_dev13_eq c))
      _ (k0_off3_inb c) (k0_off3_wordsi8 c) (k0_off3_eq c) _ (k0_off4_inb c) (k0_off4_eq c) _ (k0_off2_inb c) (k0_off2_eq c) (sends c [(2, 1)]) (sends_pos c _)) $$ [HO Ht20 Ho20 Hf20 HwL HwR Hw1 Hzw1]
  · isplitr
    · isplitr; · iexact HR
      iexact HL
    isplitl [HO]; · iexact HO
    isplitl [Ht20]; · iexact Ht20
    isplitl [Ho20]; · iexact Ho20
    isplitl [Hf20]; · iexact Hf20
    isplitl [HwL]; · iexact HwL
    isplitl [HwR]; · iexact HwR
    isplitl [Hw1]; · iexact Hw1
    iexact Hzw1
  iintro ⟨HO, Hc20, HwR, HwL, Hw0, Hzw0⟩
  iapply (wp_step m K c 2 1 1 0 fullShare.right fullShare.left _ (k0_off1_inb c 2 1) (at_off1 c 2 1) _ (k0_off8_inb c 0) _ _ (Fin.ext (k0_dev14_eq c)) (Fin.ext (k0_dev15_eq c))
      _ (k0_off6_inb c) (k0_off6_wordsi8 c) (k0_off6_eq c) _ (k0_off7_inb c) (k0_off7_eq c) _ (k0_off5_inb c) (k0_off5_eq c) (sends c []) (sends_pos c _)) $$ [HO Ht21 Ho21 Hf21 HwR HwL Hw0 Hzw0]
  · isplitr
    · isplitr; · iexact HR
      iexact HL
    isplitl [HO]; · iexact HO
    isplitl [Ht21]; · iexact Ht21
    isplitl [Ho21]; · iexact Ho21
    isplitl [Hf21]; · iexact Hf21
    isplitl [HwR]; · iexact HwR
    isplitl [HwL]; · iexact HwL
    isplitl [Hw0]; · iexact Hw0
    iexact Hzw0
  iintro ⟨HO, Hc21, HwL, HwR, Hw1, Hzw1⟩
  -- the block that stays
  iapply (wp_wStart m c fullShare.right (k0_off8 c 256#32) (k0_off8_inb c 1) 1) $$ [HwR Hw1 Hzw1]
  · isplitl [HwR]; · iexact HwR
    isplitl [Hw1]; · iexact Hw1
    iexact Hzw1
  iintro HwR
  iapply (wp_wWait m c fullShare.left (k0_off8 c 0#32) (k0_off8_inb c 0) 0 (sends c []) (sends_pos c _) c 0 (k0_off8_eq c 0)) $$ [HwL HO]
  · isplitr; · iexact HL
    isplitl [HwL]; · iexact HwL
    iexact HO
  iintro ⟨HwL, Hw0, Hzw0, HO⟩
  iapply (wp_tPut0 c 0) $$ Hg0
  iintro Hg0
  iapply (wp_wWait m c fullShare.right (k0_off8 c 256#32) (k0_off8_inb c 1) 1 (sends c []) (sends_pos c _) c 1 (k0_off8_eq c 1)) $$ [HwR HO]
  · isplitr; · iexact HL
    isplitl [HwR]; · iexact HwR
    iexact HO
  iintro ⟨HwR, Hw1, Hzw1, HO⟩
  iapply (wp_tPut1 c 0) $$ Hg0
  iintro Hg0
  iapply (wp_oStart c 0 (k0_off9 c) (k0_off9_inb c) (ownV m c)) $$ [Hg0 HrC Hzo0]
  · isplitl [Hg0]; · iexact Hg0
    isplitl [HrC]; · iapply (some_row c c (k0_off9 c) (k0_off9_inb c) (k0_off9_eq c)) $$ HrC
    iexact Hzo0
  iintro Hq0
  -- what the others sent
  iapply (wp_recv2 m K c 0 _ _ (k0_off11_inb c 0) (k0_off14_inb c 0) (k0_off11_wordsi8 c 0) (k0_off14_wordsi8 c 0) _ _ (k0_off12_inb c 0) (k0_off15_inb c 0) _ _ (k0_off10_inb c 0) (k0_off13_inb c 0)
      (at_off10 c 0) (at_off13 c 0)) $$ [HO Hr00 Hr01]
  · isplitr
    · isplitr; · iexact HR
      iexact HL
    isplitl [HO]; · iexact HO
    isplitl [Hr00]; · iexact Hr00
    iexact Hr01
  iintro ⟨HO, Hl0, Hz00, Hz01⟩
  iapply (wp_place m c 0 1 _ _ (k0_off16_inb c 0) (k0_off18_inb c 0) _ _ (k0_off17_inb c 0) (k0_off19_inb c 0) (at_off16 c 0) (at_off18 c 0) (at_off17 c 0) (at_off19 c 0)
      _ (k0_off20_inb c 0) (at_off20 c 0)) $$ [Hl0 Hg1 HrS0 Hzo1]
  · isplitl [Hl0]; · iexact Hl0
    isplitl [Hg1]; · iexact Hg1
    isplitl [HrS0]; · iexact HrS0
    iexact Hzo1
  iintro ⟨Hl0, Hq1⟩
  iapply (wp_recv2 m K c 1 _ _ (k0_off11_inb c 1) (k0_off14_inb c 1) (k0_off11_wordsi8 c 1) (k0_off14_wordsi8 c 1) _ _ (k0_off12_inb c 1) (k0_off15_inb c 1) _ _ (k0_off10_inb c 1) (k0_off13_inb c 1)
      (at_off10 c 1) (at_off13 c 1)) $$ [HO Hr10 Hr11]
  · isplitr
    · isplitr; · iexact HR
      iexact HL
    isplitl [HO]; · iexact HO
    isplitl [Hr10]; · iexact Hr10
    iexact Hr11
  iintro ⟨HO, Hl1, Hz10, Hz11⟩
  iapply (wp_place m c 1 2 _ _ (k0_off16_inb c 1) (k0_off18_inb c 1) _ _ (k0_off17_inb c 1) (k0_off19_inb c 1) (at_off16 c 1) (at_off18 c 1) (at_off17 c 1) (at_off19 c 1)
      _ (k0_off20_inb c 1) (at_off20 c 1)) $$ [Hl1 Hg2 HrS1 Hzo2]
  · isplitl [Hl1]; · iexact Hl1
    isplitl [Hg2]; · iexact Hg2
    isplitl [HrS1]; · iexact HrS1
    iexact Hzo2
  iintro ⟨Hl1, Hq2⟩
  iapply (wp_recv2 m K c 2 _ _ (k0_off11_inb c 2) (k0_off14_inb c 2) (k0_off11_wordsi8 c 2) (k0_off14_wordsi8 c 2) _ _ (k0_off12_inb c 2) (k0_off15_inb c 2) _ _ (k0_off10_inb c 2) (k0_off13_inb c 2)
      (at_off10 c 2) (at_off13 c 2)) $$ [HO Hr20 Hr21]
  · isplitr
    · isplitr; · iexact HR
      iexact HL
    isplitl [HO]; · iexact HO
    isplitl [Hr20]; · iexact Hr20
    iexact Hr21
  iintro ⟨HO, Hl2, Hz20, Hz21⟩
  iapply (wp_oWaitR m K c 1 (src c 0) _ (k0_off20_inb c 0) (at_off20 c 0) (fromV m c 0)) $$ [Hq1 HO]
  · isplitr
    · isplitr; · iexact HR
      iexact HL
    isplitl [Hq1]; · iexact Hq1
    iexact HO
  iintro ⟨HrS0, Hg1, Hzo1, HO⟩
  iapply (wp_place m c 2 1 _ _ (k0_off16_inb c 2) (k0_off18_inb c 2) _ _ (k0_off17_inb c 2) (k0_off19_inb c 2) (at_off16 c 2) (at_off18 c 2) (at_off17 c 2) (at_off19 c 2)
      _ (k0_off20_inb c 2) (at_off20 c 2)) $$ [Hl2 Hg1 HrS2 Hzo1]
  · isplitl [Hl2]; · iexact Hl2
    isplitl [Hg1]; · iexact Hg1
    isplitl [HrS2]; · iexact HrS2
    iexact Hzo1
  iintro ⟨Hl2, Hq1⟩
  iapply (wp_oWaitR m K c 0 c _ (k0_off9_inb c) (k0_off9_eq c) (ownV m c)) $$ [Hq0 HO]
  · isplitr
    · isplitr; · iexact HR
      iexact HL
    isplitl [Hq0]; · iexact Hq0
    iexact HO
  iintro ⟨HrC, Hg0, Hzo0, HO⟩
  iapply (wp_oWaitR m K c 2 (src c 1) _ (k0_off20_inb c 1) (at_off20 c 1) (fromV m c 1)) $$ [Hq2 HO]
  · isplitr
    · isplitr; · iexact HR
      iexact HL
    isplitl [Hq2]; · iexact Hq2
    iexact HO
  iintro ⟨HrS1, Hg2, Hzo2, HO⟩
  iapply (wp_oWaitR m K c 1 (src c 2) _ (k0_off20_inb c 2) (at_off20 c 2) (fromV m c 2)) $$ [Hq1 HO]
  · isplitr
    · isplitr; · iexact HR
      iexact HL
    isplitl [Hq1]; · iexact Hq1
    iexact HO
  iintro ⟨HrS2, Hg1, Hzo1, HO⟩
  -- what this device sent
  iapply (wp_done m K c 0 0 _ (k0_off3_inb c) (k0_off3_wordsi8 c) _ (k0_off4_inb c)) $$ [HO Hc00 Hs00]
  · isplitr; · iexact HR
    isplitr; · iexact HL
    isplitl [HO]; · iexact HO
    isplitl [Hc00]; · iexact Hc00
    iexact Hs00
  iintro ⟨HO, Hs00, Ho00⟩
  iapply (wp_done m K c 0 1 _ (k0_off6_inb c) (k0_off6_wordsi8 c) _ (k0_off7_inb c)) $$ [HO Hc01 Hs01]
  · isplitr; · iexact HR
    isplitr; · iexact HL
    isplitl [HO]; · iexact HO
    isplitl [Hc01]; · iexact Hc01
    iexact Hs01
  iintro ⟨HO, Hs01, Ho01⟩
  iapply (wp_done m K c 1 0 _ (k0_off3_inb c) (k0_off3_wordsi8 c) _ (k0_off4_inb c)) $$ [HO Hc10 Hs10]
  · isplitr; · iexact HR
    isplitr; · iexact HL
    isplitl [HO]; · iexact HO
    isplitl [Hc10]; · iexact Hc10
    iexact Hs10
  iintro ⟨HO, Hs10, Ho10⟩
  iapply (wp_done m K c 1 1 _ (k0_off6_inb c) (k0_off6_wordsi8 c) _ (k0_off7_inb c)) $$ [HO Hc11 Hs11]
  · isplitr; · iexact HR
    isplitr; · iexact HL
    isplitl [HO]; · iexact HO
    isplitl [Hc11]; · iexact Hc11
    iexact Hs11
  iintro ⟨HO, Hs11, Ho11⟩
  iapply (wp_done m K c 2 0 _ (k0_off3_inb c) (k0_off3_wordsi8 c) _ (k0_off4_inb c)) $$ [HO Hc20 Hs20]
  · isplitr; · iexact HR
    isplitr; · iexact HL
    isplitl [HO]; · iexact HO
    isplitl [Hc20]; · iexact Hc20
    iexact Hs20
  iintro ⟨HO, Hs20, Ho20⟩
  iapply (wp_done m K c 2 1 _ (k0_off6_inb c) (k0_off6_wordsi8 c) _ (k0_off7_inb c)) $$ [HO Hc21 Hs21]
  · isplitr; · iexact HR
    isplitr; · iexact HL
    isplitl [HO]; · iexact HO
    isplitl [Hc21]; · iexact Hc21
    iexact Hs21
  iintro ⟨HO, Hs21, Ho21⟩
  iapply (wp_over c Q)
  iapply Hk
  isplitl [HO]; · iexact HO
  isplitl [HzB Hs00 Hs01 Hs10 Hs11 Hs20 Hs21 Hz00 Hz01 Hz10 Hz11 Hz20 Hz21]
  · isplitl [HzB]
    · iexact HzB
    isplitl [Hs00 Hs01 Hs10 Hs11 Hs20 Hs21]
    · isplitl [Hs00 Hs01]
      · isplitl [Hs00]
        · iexact Hs00
        iexact Hs01
      isplitl [Hs10 Hs11]
      · isplitl [Hs10]
        · iexact Hs10
        iexact Hs11
      isplitl [Hs20]
      · iexact Hs20
      iexact Hs21
    isplitl [Hz00 Hz01]
    · isplitl [Hz00]
      · iexact Hz00
      iexact Hz01
    isplitl [Hz10 Hz11]
    · isplitl [Hz10]
      · iexact Hz10
      iexact Hz11
    isplitl [Hz20]
    · iexact Hz20
    iexact Hz21
  isplitl [Hl0 Hl1 Hl2]
  · isplitl [Hl0]
    · iexact Hl0
    isplitl [Hl1]
    · iexact Hl1
    iexact Hl2
  isplitl [HxV Hw0 Hw1 Ho00 Ho01 Ho10 Ho11 Ho20 Ho21 Hg0 Hg1 Hg2]
  · isplitl [HxV]
    · iexact HxV
    isplitl [Hw0 Hw1]
    · isplitl [Hw0]
      · iexact Hw0
      iexact Hw1
    isplitl [Ho00 Ho01 Ho10 Ho11 Ho20 Ho21]
    · isplitl [Ho00 Ho01]
      · isplitl [Ho00]
        · iexact Ho00
        iexact Ho01
      isplitl [Ho10 Ho11]
      · isplitl [Ho10]
        · iexact Ho10
        iexact Ho11
      isplitl [Ho20]
      · iexact Ho20
      iexact Ho21
    isplitl [Hg0]
    · iexact Hg0
    isplitl [Hg1]
    · iexact Hg1
    iexact Hg2
  isplitl [Hzx Hzw0 Hzw1 Hzo0 Hzo1 Hzo2]
  · isplitl [Hzx]
    · iexact Hzx
    isplitl [Hzw0 Hzw1]
    · isplitl [Hzw0]
      · iexact Hzw0
      iexact Hzw1
    isplitl [Hzo0]
    · iexact Hzo0
    isplitl [Hzo1]
    · iexact Hzo1
    iexact Hzo2
  isplitl [Hx HwL HwR Hsx Hsw]
  · isplitl [Hx]
    · iexact Hx
    isplitl [HwL HwR]
    · isplitl [HwL]
      · iexact HwL
      iexact HwR
    isplitl [Hsx]
    · iexact Hsx
    iexact Hsw
  isplitl [HrC]
  · iexact HrC
  isplitl [HrS0]
  · iexact HrS0
  isplitl [HrS1]
  · iexact HrS1
  iexact HrS2

end Cert.KernelIdeal.A2A

end
-- ==== Proof.Launch.lean ====
/- The launch: the body's obligation, what a device starts from and leaves, and the run of the whole program from any
   memory: it ends, the arguments are unchanged, every semaphore is at zero, and the result's rows are known. -/
module

public import proofs.«01_k».proof.Proof.Ghost
public import proofs.«01_k».proof.Proof.Body
public import Idealize.ShloMosaic.Lib.Pipeline.FrameBody
public import Idealize.ShloMosaic.Lib.Pipeline.CollectiveSegs
public import Idealize.ShloMosaic.Lib.Quiescent

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The grid's one point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## What a device holds before and after the body -/

/-- A whole buffer of the device at the launch's contents. -/
abbrev asLaunched (c : Dev nD) (b : Ref sig .tc) : sProp 𝕄 := iprop(((c : Thread nD τ).loc b) ↦{fullShare} (m ((c : Thread nD τ).loc b)))

/-- The scratch at some contents. -/
def scratch (c : Dev nD) : sProp 𝕄 :=
  iprop(anyB c cc0_scratch0 ∗ anyB c cc0_scratch1 ∗ anyB c cc0_scratch2 ∗ anyB c cc0_scratch3 ∗ anyB c cc0_scratch4 ∗ anyB c cc0_scratch5 ∗ anyB c cc0_scratch6)
/-- What the launch hands the body of a device. -/
def start (c : Dev nD) : sProp 𝕄 :=
  iprop((∃ K, records m K ∗ lin c) ∗ creds c ∗ levAts L lv ∗ asLaunched m c main_arg0 ∗ asLaunched m c main_arg1 ∗ asLaunched m c main_v1)
/-- The arguments as launched, the result at rows that are known. -/
def done (c : Dev nD) : sProp 𝕄 :=
  iprop(asLaunched m c main_arg0 ∗ asLaunched m c main_arg1
    ∗ ∃ f : Buf (Elt F) ((c : Thread nD τ).loc main_v1), ⌜∀ p : Dev nD, (oR p).view.read (Elt F) f = outV m c p⌝ ∗ ((c : Thread nD τ).loc main_v1) ↦{fullShare} f)

def Φ₀ (c : Dev nD) : sProp 𝕄 := iprop(start m c ∗ scratch c)
def Φ₁ (c : Dev nD) : sProp 𝕄 := iprop(done m c ∗ scratch c ∗ sems c)

def dats (_ : Fin 1) (c : Dev nD) : Dat τ (Elt F) Unit ℕ UU ℕ cfg0 c where
  A w := m ((cfg0.win w).arr.view.loc (c : Thread nD τ))
  after w _ := match w with
    | ⟨0, _⟩ => stg0 m c
    | ⟨1, _⟩ => stg1 m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem whole_pts (c : Dev nD) {sp : Space} {s : Shape} {e : EltTy} (b : Ref sig .tc) (M : Memref sig .tc sp s e) (hM : M.view.set = Finset.univ) (hl : M.view.loc (c : Thread nD τ) = (c : Thread nD τ).loc b)
    (f : Buf (Elt F) (M.view.loc (c : Thread nD τ))) : (cpts c M f : sProp 𝕄) = iprop((M.view.loc (c : Thread nD τ)) ↦{fullShare} f) := by
  unfold cpts; rw [hM]

/-! ## The body -/

/-- What the body of a device needs, from what it is handed. -/
theorem pre_intro (c : Dev nD) :
    iprop(Φ₀ m c ∗ ow c (dueCells c) ∗ cpts c sxM (stg0 m c) ∗ cpts c swM (stg1 m c)) ⊢ (iprop(∃ K, pre m K c ∗ free4 c c ∗ idle c) : sProp 𝕄) := by
  unfold Φ₀ start scratch
  iintro ⟨⟨⟨⟨%K, #HR, Hlin⟩, Hcr, #HL, Ha0, Ha1, Hv⟩, Hb0, Hb1, Hb2, Hb3, Hb4, Hb5, Hb6⟩, HO, Hsx, Hsw⟩
  ihave Ht := (talk_intro (F := F) c) $$ [Hlin Hcr]
  · isplitl [Hlin]; · iexact Hlin
    iexact Hcr
  icases Ht with ⟨Ht, Hloc, Hidle⟩
  ihave Hb0 := (Entails.of_eq (xV_iff (F := F) c)) $$ Hb0
  ihave Hb1 := (wSlots_open (F := F) c) $$ Hb1
  ihave Hb2 := (outs_open (F := F) c) $$ [Hb2 Hb3]
  · isplitl [Hb2]; · iexact Hb2
    iexact Hb3
  ihave Hb4 := (lands_open (F := F) c) $$ [Hb4 Hb5]
  · isplitl [Hb4]; · iexact Hb4
    iexact Hb5
  icases Hb4 with ⟨Hself, Hland⟩
  ihave Hb6 := (tSlots_open (F := F) c) $$ Hb6
  ihave Hr := (rows_open (F := F) c) $$ [Hv]
  · iexists _; iexact Hv
  ihave Hw := (pointsTo_share (PosShare.mem_left_op_right fullShare)).1 $$ Ha1
  iexists K
  unfold pre mine given
  isplitr [Hself Hidle]
  · isplitr
    · isplitr; · iexact HR
      iexact HL
    isplitl [HO]; · iexact HO
    isplitl [Ht]; · iexact Ht
    isplitl [Hland]; · iexact Hland
    isplitl [Hb0 Hb1 Hb2 Hb6]
    · isplitl [Hb0]; · iexact Hb0
      isplitl [Hb1]; · iexact Hb1
      isplitl [Hb2]; · iexact Hb2
      iexact Hb6
    isplitl [Hloc]; · iexact Hloc
    isplitl [Ha0 Hw Hsx Hsw]
    · isplitl [Ha0]
      · unfold cpts; rw [View.set_whole]; iexact Ha0
      isplitl [Hw]; · iexact Hw
      isplitl [Hsx]; · iexact Hsx
      iexact Hsw
    iexact Hr
  isplitl [Hself]; · iexact Hself
  iexact Hidle

/-- What it leaves. -/
theorem post_elim (c : Dev nD) :
    iprop(post m c ∗ free4 c c ∗ idle c) ⊢ (iprop(Φ₁ m c ∗ ow c [] ∗ cpts c sxM (stg0 m c) ∗ cpts c swM (stg1 m c)) : sProp 𝕄) := by
  unfold post mine given
  iintro ⟨⟨HO, Hq, Hf, ⟨Hb0, Hb1, Hb2, Hb6⟩, Hloc, ⟨Ha0, Hw, Hsx, Hsw⟩, Hr⟩, Hself, Hidle⟩
  ihave Hs := (sems_after (F := F) c) $$ [Hq Hloc Hidle]
  · isplitl [Hq]; · iexact Hq
    isplitl [Hloc]; · iexact Hloc
    iexact Hidle
  ihave Hb0 := (Entails.of_eq (xV_iff (F := F) c).symm) $$ Hb0
  ihave Hb1 := (wSlots_close m c) $$ Hb1
  ihave Hb2 := (outs_close m c) $$ Hb2
  icases Hb2 with ⟨Hb2, Hb3⟩
  ihave Hb4 := (lands_close m c) $$ [Hself Hf]
  · isplitl [Hself]; · iexact Hself
    iexact Hf
  icases Hb4 with ⟨Hb4, Hb5⟩
  ihave Hb6 := (tSlots_close m c) $$ Hb6
  ihave Hv := (rows_close m c) $$ Hr
  ihave Ha1 := (pointsTo_share (PosShare.mem_left_op_right fullShare)).2 $$ Hw
  unfold Φ₁ done scratch
  isplitr [HO Hsx Hsw]
  · isplitl [Ha0 Ha1 Hv]
    · isplitl [Ha0]
      · unfold cpts; rw [View.set_whole]; iexact Ha0
      isplitl [Ha1]; · iexact Ha1
      iexact Hv
    isplitr [Hs]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      iexact Hb6
    iexact Hs
  isplitl [HO]; · iexact HO
  isplitl [Hsx]; · iexact Hsx
  iexact Hsw

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stgAt (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The staging buffers hold the scalars. -/
theorem before0 (c : Dev nD) (d) : (dats m 0 c).before (0 : Fin 2) t₀ d = stg0 m c := by
  unfold Dat.before; rw [if_pos (show (cfg0.win (0 : Fin 2)).fetch t₀ = true from rfl)]; rfl
theorem before1 (c : Dev nD) (d) : (dats m 0 c).before (1 : Fin 2) t₀ d = stg1 m c := by
  unfold Dat.before; rw [if_pos (show (cfg0.win (1 : Fin 2)).fetch t₀ = true from rfl)]; rfl

def bodyPre (c : Dev nD) : sProp 𝕄 :=
  iprop(Φ₀ m c ∗ (dats m 0 c).owesAt () t₀.castSucc
    ∗ (∃ d, stgAt c cc0_stg0_0 ((dats m 0 c).before (0 : Fin 2) t₀ d))
    ∗ (∃ d, stgAt c cc0_stg1_0 ((dats m 0 c).before (1 : Fin 2) t₀ d)))
def bodyPost (c : Dev nD) : sProp 𝕄 :=
  iprop(Φ₁ m c ∗ (dats m 0 c).owesAt () t₀.succ ∗ stgAt c cc0_stg0_0 (stg0 m c) ∗ stgAt c cc0_stg1_0 (stg1 m c))

set_option maxRecDepth 16000 in
theorem body_sound (c : Dev nD) : bodyPre m c ⊢ WP c (bodyAt0 (F := F) t₀) (fun _ => bodyPost m c) := by
  rw [body_eq]
  show bodyPre m c ⊢ wp frame (wpE (defs₀ (F := F)) 𝒱₀ (c : Thread nD τ) none) Set.univ (.op .deviceId fun d0 => flat (F := F) d0) _
  rw [wp_deviceId]
  unfold bodyPre
  iintro ⟨HΦ, Ho, ⟨%d0, %g0, %hg0, Hx⟩, ⟨%d1, %g1, %hg1, Hw⟩⟩
  rw [before0] at hg0
  rw [before1] at hg1
  subst hg0
  subst hg1
  unfold Dat.owesAt Pipeline.owesWithin
  icases Ho with ⟨%W, %hW, HO⟩
  rw [show (dats m 0 c).owed t₀.castSucc = owed (dueCells c) from rfl]
  ihave H := (pre_intro m c) $$ [HΦ HO Hx Hw]
  · isplitl [HΦ]; · iexact HΦ
    isplitl [HO]
    · unfold ow; iexists W; iexact HO
    isplitl [Hx]
    · unfold cpts; rw [View.set_whole]; iexact Hx
    unfold cpts; rw [View.set_whole]; iexact Hw
  icases H with ⟨%K, Hpre, Hkeep⟩
  iapply (wp_flat m K c fun _ => bodyPost m c)
  isplitl [Hpre]; · iexact Hpre
  iintro Hpost
  ihave H := (post_elim m c) $$ [Hpost Hkeep]
  · isplitl [Hpost]; · iexact Hpost
    iexact Hkeep
  icases H with ⟨HΦ, HO, Hx, Hw⟩
  unfold bodyPost Dat.owesAt Pipeline.owesWithin ow
  icases HO with ⟨%W', HO⟩
  isplitl [HΦ]; · iexact HΦ
  isplitl [HO]
  · rw [show (dats m 0 c).owed t₀.succ = owed [] from rfl]
    iexists W'
    isplitr; · ipureintro; exact fun _ _ => Or.inl trivial
    iexact HO
  isplitl [Hx]
  · iexists (stg0 m c)
    isplitr; · ipureintro; rfl
    unfold cpts; rw [View.set_whole]; iexact Hx
  iexists (stg1 m c)
  isplitr; · ipureintro; rfl
  unfold cpts; rw [View.set_whole]; iexact Hw

set_option maxRecDepth 16000 in
theorem body_obligation (c : Dev nD) : BodyObligation (dats (F := F) m 0 c) (defs₀ (F := F)) 𝒱₀ () Set.univ := fun t => by
  rw [fin_N t]
  rw [bigSep_W, bigSep_W]
  simp only [owns_whole_eq]
  exact body_sound m c

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp 𝕄)
    = iprop(asLaunched m c main_arg0 ∗ asLaunched m c main_arg1 ∗ asLaunched m c main_v1) from
      (Pipeline.unscopedRestP_none _ _ _).trans (unscopedRest0_eq c fun b => m ((c : Thread nD τ).loc b))]
  iintro ⟨⟨Ha0, Ha1, Hv⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Ha0]; · iexact Ha0
    isplitl [Ha1]; · iexact Ha1
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What is read at the end of a device's memory. -/
def left (c : Dev nD) : sProp 𝕄 := iprop(done m c ∗ unscopedSems0 c)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold Φ₁ left scratch
  iintro ⟨Hd, Hr, Hs⟩
  ihave Hs := (sems_close (F := F) c) $$ Hs
  icases Hs with ⟨Hu, Ho⟩
  isplitl [Hd Hu]
  · isplitl [Hd]; · iexact Hd
    iexact Hu
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t => by
    have hz : lv ((c : Thread nD τ), .dma ((spec0 w).sem s)) () ≤ 0 := le_of_eq (lv_not c _ fun i => stg_ne c w s i)
    rcases t with ⟨_ | _, ht⟩
    · refine mayWait c _ 0 hz (dueCells c) fun x hx => ?_
      have hd : ∀ c : Dev nD, ∀ x ∈ dueCells c, 0 < lvl x.2 := by decide +kernel
      exact hd c x hx
    · exact mayWait c _ 0 hz [] fun x hx => absurd hx List.not_mem_nil

/-- What a device's memory holds at the end. -/
def Fin' (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ ∀ p : Dev nD, (oR p).view.read (Elt F) (s.mem ((c : Thread nD τ).loc main_v1)) = outV m c p)
  ∧ ∀ sm : SemLoc sig, sm.isScoped .tc = false → s.sem ((c.tc : Thread nD τ), sm) = 0

theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave %h := (SI_pointsTo_agree (st := s') (I := Finset.univ) (q := fullShare) (f := f)) $$ [HSI H]
  · isplitl [HSI]; · iexact HSI
    iexact H
  isplitr
  · ipureintro; exact funext fun i => h i (Finset.mem_univ i)
  iexact HSI

theorem read_left (c : Dev nD) (s' : Phys nD τ sig (Elt F)) : iprop(left m c ∗ emp ∗ SI s') ⊢ (|={Set.univ}=> iprop(⌜Fin' m c s'.mem⌝ ∗ SI s') : sProp 𝕄) := by
  unfold left done
  iintro ⟨⟨⟨H0, H1, ⟨%f, %hf, Hv⟩⟩, Hu⟩, -, HSI⟩
  ihave H := (read_one _ _ s') $$ [H0 HSI]
  · isplitl [H0]; · iexact H0
    iexact HSI
  icases H with ⟨%h0, HSI⟩
  ihave H := (read_one _ _ s') $$ [H1 HSI]
  · isplitl [H1]; · iexact H1
    iexact HSI
  icases H with ⟨%h1, HSI⟩
  ihave H := (read_one _ _ s') $$ [Hv HSI]
  · isplitl [Hv]; · iexact Hv
    iexact HSI
  icases H with ⟨%hv, HSI⟩
  imod (Pipeline.unscopedSems0_read (X := unscopedSems0 c) (c := c) fupd_intro s') $$ [Hu HSI] with ⟨%hs, HSI⟩
  · isplitl [Hu]; · iexact Hu
    iexact HSI
  imodintro
  isplitr
  · ipureintro
    refine ⟨⟨h0, h1, fun p => ?_⟩, hs⟩
    rw [hv]; exact hf p
  iexact HSI

theorem own_three (a : UR sig nD τ) (b : UB) :
    (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What the run leaves. -/
def Ends (r : PUnit × MemSt nD τ sig (Elt F)) : Prop :=
  (∀ c : Dev nD, r.2.mem ((c.tc : Thread nD τ).loc main_arg0) = m ((c.tc : Thread nD τ).loc main_arg0) ∧ r.2.mem ((c.tc : Thread nD τ).loc main_arg1) = m ((c.tc : Thread nD τ).loc main_arg1)
    ∧ r.2.mem ((c.tc : Thread nD τ).loc main_arg2) = m ((c.tc : Thread nD τ).loc main_arg2) ∧ r.2.mem ((c.tc : Thread nD τ).loc main_arg3) = m ((c.tc : Thread nD τ).loc main_arg3))
  ∧ (r.2.sem = fun _ => 0)
  ∧ ∀ c p : Dev nD, (oR p).view.read (Elt F) (r.2.mem ((c.tc : Thread nD τ).loc main_v1)) = outV m c p

set_option maxRecDepth 8000 in
/-- From any memory every weakly fair execution ends, and ends so. -/
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (own_three _ _) $$ Hu
      icases H with ⟨HP, HX⟩
      imod (fund_all m) $$ HX with HG
      imodintro
      isplitl [HP]; · iexact HP
      iexact HG)
    (hglob := glob m)
    (hA := fun _ _ => rfl) (hpf := fun _ k => k.elim0)
    (X := start m) (Y := left m) (Z := fun _ => iprop(emp))
    (hX := start_intro m ρ) (hin := phi0_intro m) (hout := phi1_exit m)
    (QY := Fin' m) (hY := read_left m)
    (hQ := fun s h hs => ⟨fun c => ⟨(h c).2.2.1.1, (h c).2.2.1.2.1, ((h c).1 0).trans ((dats m 0 c).arrAt_in 0 rfl _), ((h c).1 1).trans ((dats m 0 c).arrAt_in 1 rfl _)⟩,
      sem_eq_zero hs fun c => (h c).2.2.2, fun c p => (h c).2.2.1.2.2 p⟩)

end Cert.KernelIdeal.A2A

end
-- ==== Proof.Frames.lean ====
/- The three frames, and the statement of the one named constant. -/
module

public import proofs.«01_k».proof.Defs
public import proofs.«01_k».proof.Proof.Launch
public import proofs.«01_k».proof.Proof.KLaunch
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

theorem frame_p : Cert.quiescent_Kernel := fun m g _ =>
  (θ_run (Cert.Kernel.defs (F := Bits)) _ _).mono (fun _ h => ⟨h.1, h.2.1⟩) (Cert.Kernel.A2A.run_main (F := Bits) m g)

theorem frame_pi : Cert.quiescent_KernelIdeal := fun m g _ =>
  (θ_run (Cert.KernelIdeal.defs (F := Ideal)) _ _).mono (fun _ h => ⟨h.1, h.2.1⟩) (Cert.KernelIdeal.A2A.run_main (F := Ideal) m g)

theorem frame_ri : Cert.quiescent_ReferenceIdeal := fun m g _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m g)

/-- The table gives the name the value 1/127. -/
theorem named : Cert.preserves_Kernel_KernelIdeal :=
  IdealRules.named_const.statement Cert.KernelIdeal.κ "inv_127" .f32 0x3C010204#32 ((1 / 127 : ℝ) : EReal) rfl

end Cert.Proof

end
-- ==== Proof.Quant.lean ====
/- The quantiser at one element, on the extended reals: the kernel multiplies by the reciprocal of the scale and converts
   to int8; the reference divides by the scale, clips to ±127 and converts through int32. For an element between zero and
   its row's maximum the two codes stand for the same number. -/
module

public import Idealize.ShloMosaic.PureOps
public import Idealize.ShloMosaic.PureOps.Ideal.Laws
public import Idealize.ShloMosaic.Lib.IdealHost

@[expose] public section

noncomputable section

namespace Cert.Quant

open Idealize.ShloMosaic

/-- The code of `z`, as the kernel converts it and as the reference does, read back as a number. -/
def codeK (z : EReal) : EReal := FloatOps.sitofp (F := Ideal) .f32 (FloatOps.fptosi (F := Ideal) (φ := .f32) 8 (Ideal.liftRound Ideal.roundHalfEven z))
def codeR (lo hi z : EReal) : EReal :=
  FloatOps.sitofp (F := Ideal) .f32 (((FloatOps.fptosi (F := Ideal) (φ := .f32) 32 (min hi (max lo (Ideal.liftRound Ideal.roundHalfEven z)))).setWidth 8).signExtend 32)

theorem round_range {u : ℝ} (h0 : 0 ≤ u) (h1 : u ≤ 127) : 0 ≤ Ideal.roundHalfEven u ∧ Ideal.roundHalfEven u ≤ 127 := by
  unfold Ideal.roundHalfEven
  have hf0 : 0 ≤ ⌊u⌋ := Int.floor_nonneg.2 h0
  have hf1 : ⌊u⌋ ≤ 127 := Int.floor_le_iff.2 (by push_cast; linarith)
  have hlt : ¬ (u - ⌊u⌋ < 1 / 2) → ⌊u⌋ < 127 := fun h => by
    rcases lt_or_eq_of_le hf1 with h' | h'
    · exact h'
    · exfalso; apply h; rw [h']; push_cast; linarith
  dsimp only
  split
  · exact ⟨hf0, hf1⟩
  · next h =>
    have := hlt h
    split
    · omega
    · split <;> omega

theorem codeK_coe {u : ℝ} (h0 : 0 ≤ u) (h1 : u ≤ 127) : codeK (u : EReal) = ((Ideal.roundHalfEven u : ℝ) : EReal) := by
  obtain ⟨a, b⟩ := round_range h0 h1
  unfold codeK
  generalize hn : Ideal.roundHalfEven u = n at a b
  rw [Ideal.liftRound_coe, hn]
  show ((((BitVec.ofInt 8 (Ideal.toIntClamped _ _ ((n : ℝ) : EReal))).toInt : ℝ)) : EReal) = _
  rw [Ideal.toIntClamped_coe, Int.floor_intCast, Int.ceil_intCast, ite_self]
  interval_cases n <;> rfl

theorem codeR_coe {u : ℝ} (h0 : 0 ≤ u) (h1 : u ≤ 127) : codeR ((-127 : ℝ) : EReal) ((127 : ℝ) : EReal) (u : EReal) = ((Ideal.roundHalfEven u : ℝ) : EReal) := by
  obtain ⟨a, b⟩ := round_range h0 h1
  unfold codeR
  generalize hn : Ideal.roundHalfEven u = n at a b
  rw [Ideal.liftRound_coe, hn]
  have e : min ((127 : ℝ) : EReal) (max ((-127 : ℝ) : EReal) ((n : ℝ) : EReal)) = ((n : ℝ) : EReal) := by
    rw [max_eq_right (by exact_mod_cast (by linarith [show (0 : ℝ) ≤ n by exact_mod_cast a] : (-127 : ℝ) ≤ n)),
      min_eq_right (by exact_mod_cast (show (n : ℝ) ≤ 127 by exact_mod_cast b))]
  rw [e]
  show (((((BitVec.ofInt 32 (Ideal.toIntClamped _ _ ((n : ℝ) : EReal))).setWidth 8).signExtend 32).toInt : ℝ) : EReal) = _
  rw [Ideal.toIntClamped_coe, Int.floor_intCast, Int.ceil_intCast, ite_self]
  interval_cases n <;> rfl

/-- The scale from a row's maximum: the kernel's product with 1/127, the reference's quotient by 127. -/
theorem scale_eq (t : EReal) : Ideal.div t ((127 : ℝ) : EReal) = t * ((1 / 127 : ℝ) : EReal) := by
  rw [Ideal.div_coe (by norm_num), one_div]

/-- What is sent of an element `y` of a row whose maximum is `M`. -/
theorem sent_eq {y M ε : EReal} (hε : 0 < ε) (h0 : 0 ≤ y) (hM : y ≤ M) :
    codeK (y * Ideal.div 1 (max M ε * ((1 / 127 : ℝ) : EReal)))
      = codeR ((-127 : ℝ) : EReal) ((127 : ℝ) : EReal) (Ideal.div y (Ideal.div (max M ε) ((127 : ℝ) : EReal))) := by
  rw [scale_eq]
  have ht : 0 < max M ε := lt_max_of_lt_right hε
  have hy : y ≤ max M ε := hM.trans (le_max_left _ _)
  generalize max M ε = t at ht hy
  have hs : t * ((1 / 127 : ℝ) : EReal) ≠ 0 :=
    (EReal.mul_pos ht (by exact_mod_cast (by norm_num : (0 : ℝ) < 1 / 127))).ne'
  unfold Ideal.div
  rw [if_neg hs, if_neg hs, one_mul]
  suffices h : ∃ u : ℝ, 0 ≤ u ∧ u ≤ 127 ∧ y * (t * ((1 / 127 : ℝ) : EReal))⁻¹ = (u : EReal) by
    obtain ⟨u, a, b, e⟩ := h
    rw [e, codeK_coe a b, codeR_coe a b]
  induction t with
  | bot => exact absurd ht (not_lt_of_ge bot_le)
  | top =>
    refine ⟨0, le_rfl, by norm_num, ?_⟩
    rw [EReal.top_mul_of_pos (by exact_mod_cast (by norm_num : (0 : ℝ) < 1 / 127)), EReal.inv_top, mul_zero]; rfl
  | coe r =>
    have hr : 0 < r := by exact_mod_cast ht
    induction y with
    | bot => exact absurd h0 (not_le_of_gt (EReal.bot_lt_zero))
    | top => exact absurd hy (not_le_of_gt (EReal.coe_lt_top r))
    | coe v =>
      have hv : 0 ≤ v := by exact_mod_cast h0
      have hvr : v ≤ r := by exact_mod_cast hy
      refine ⟨v * (r * (1 / 127))⁻¹, by positivity, ?_, ?_⟩
      · rw [← div_eq_mul_inv, div_le_iff₀ (by positivity)]; linarith
      · rw [← EReal.coe_mul, ← EReal.coe_inv, ← EReal.coe_mul]

/-- The constants the quantisers share. -/
theorem bits_127 : Ideal.ofBits .f32 0x42FE0000#32 = ((127 : ℝ) : EReal) := by
  simp [Ideal.ofBits, Ideal.ieee]
  rw [← EReal.coe_mul]; norm_num
theorem bits_neg127 : Ideal.ofBits .f32 0xC2FE0000#32 = ((-127 : ℝ) : EReal) := by
  simp [Ideal.ofBits, Ideal.ieee]
  rw [← EReal.coe_mul]; norm_num
theorem bits_small : 0 < Ideal.ofBits .f32 0x0DA24260#32 := by
  simp [Ideal.ofBits, Ideal.ieee]
  rw [← EReal.coe_mul]; exact EReal.coe_pos.2 (by norm_num)

end Cert.Quant

end
-- ==== Proof.BlockAt.lean ====
/- One block of the kernel at an element, on the extended reals. -/
module

public import proofs.«01_k».proof.Proof.Flat
public import proofs.«01_k».proof.Proof.Quant
public import Idealize.ShloMosaic.Lib.Pointwise

@[expose] public section

noncomputable section

namespace Cert.KernelIdeal.A2A

open Cert.KernelIdeal Cert.KernelIdeal.Gen Idealize.ShloMosaic

set_option maxRecDepth 16384 in
theorem cO_at (a b : EReal) (x : S1024x4096.Idx → EReal) (w : S1x4096x256.Idx → EReal) (r : Fin 1024) (l : Fin 256) :
    cO (F := Ideal) a b x w (ix3 0 r l) = max ((∑ k : Fin 4096, x (ix2 r k) * w (ix3 0 k l)) * (a * b)) 0 := by
  pointwise [cO, k0_pay30, k0_pay1, k0_pay2]

/-- A row's scale, before the factor 1/127: its largest element, and no less than the small constant. -/
abbrev peak (y : Fin 256 → EReal) : EReal :=
  max ((Finset.univ : Finset (Fin 256)).fold max (Ideal.ofBits .f32 0xFF800000#32) y) (Ideal.ofBits .f32 0x0DA24260#32)

set_option maxRecDepth 16384 in
theorem dq_at (a b : EReal) (x : S1024x4096.Idx → EReal) (w : S1x4096x256.Idx → EReal) (y : Fin 256 → EReal) (r : Fin 1024) (l : Fin 256)
    (hy : ∀ l, y l = max ((∑ k : Fin 4096, x (ix2 r k) * w (ix3 0 k l)) * (a * b)) 0) :
    dq (F := Ideal) (cS (F := Ideal) a b x w) (cQ (F := Ideal) a b x w) (ix3 0 r l)
      = Quant.codeK (y l * Ideal.div 1 (peak y * ((1 / 127 : ℝ) : EReal))) * (peak y * ((1 / 127 : ℝ) : EReal)) := by
  obtain rfl : y = fun l => max ((∑ k : Fin 4096, x (ix2 r k) * w (ix3 0 k l)) * (a * b)) 0 := funext hy
  pointwise [dq, cS, cQ, k0_pay36, k0_pay16, k0_pay17, k0_pay14, k0_pay15, k0_pay1, k0_pay2]
  rw [show Named.named (F := Ideal) Cert.KernelIdeal.κ "inv_127" (φ := .f32) 0x3C010204#32 = ((1 / 127 : ℝ) : EReal) from
    IdealRules.named_const.ideal_named_scalar _ _ _ _ rfl]
  rfl

end Cert.KernelIdeal.A2A

end
-- ==== Proof.RefAt.lean ====
/- The reference at an element, on the extended reals. -/
module

public import proofs.«01_k».proof.Proof.Gen.ReferenceIdeal.Run
public import proofs.«01_k».proof.Proof.Quant
public import Idealize.ShloMosaic.Lib.Pointwise

@[expose] public section

noncomputable section

namespace Cert.ReferenceIdeal.At

open Cert.ReferenceIdeal Cert.ReferenceIdeal.Gen Idealize.ShloMosaic Idealize.ShloMosaic.TcCoe Idealize.SL.Sem Idealize.ShloMosaic.StableHlo

/-- The scaled product after relu, cut into (sender, row, receiver, half, column). -/
def relu5 (X : FVec Ideal S4096x4096 .f32) (W : FVec Ideal S4096x2048 .f32) (a b : FVec Ideal S1 .f32) : FVec Ideal S4x1024x4x2x256 .f32 :=
  shapeCast _ (maximumf (mulf (Host.dotGeneral dot_S4096x4096_S4096x2048_S4096x2048_1_0_0_1_n_n none X W) (broadcastInDim S4096x2048 ![0, 1] bcast_S1x1_S4096x2048_0_1 (broadcastInDim S1x1 ![1] bcast_S1_S1x1_1 (mulf a b)))) (broadcastInDim S4096x2048 ![] bcast_S_S4096x2048 (constant S_ .f32 0x00000000#32))) shapeCasts_S4096x2048_S4x1024x4x2x256

/-- The scale of each half row. -/
def scale5 (g : FVec Ideal S4x1024x4x2x256 .f32) : FVec Ideal S4x1024x4x2x1 .f32 :=
  Host.divf (maximumf (broadcastInDim S4x1024x4x2x1 ![0, 1, 2, 3] bcast_S4x1024x4x2_S4x1024x4x2x1_0_1_2_3 (Host.reduce FloatOps.maximumf g (constant S_ .f32 0xFF800000#32) reducesTo_S4x1024x4x2x256_S4x1024x4x2_d4 h_S_)) (broadcastInDim S4x1024x4x2x1 ![] bcast_S_S4x1024x4x2x1 (constant S_ .f32 0x0DA24260#32))) (broadcastInDim S4x1024x4x2x1 ![] bcast_S_S4x1024x4x2x1 (constant S_ .f32 0x42FE0000#32))

/-- The codes of `g` read back as numbers, given the scales at every element. -/
def code5 (g sc : FVec Ideal S4x1024x4x2x256 .f32) : FVec Ideal S4x1024x4x2x256 .f32 :=
  sitofp .f32 (extsi 32 (trunci 8 (fptosi 32 (minimumf (broadcastInDim S4x1024x4x2x256 ![] bcast_S_S4x1024x4x2x256 (id (constant S_ .f32 0x42FE0000#32))) (maximumf (broadcastInDim S4x1024x4x2x256 ![] bcast_S_S4x1024x4x2x256 (id (constant S_ .f32 0xC2FE0000#32))) (Host.roundeven (Host.divf g sc))))) natLt_8_32) natLt_8_32)

/-- The scales at every element. -/
def spread5 (sc : FVec Ideal S4x1024x4x2x1 .f32) : FVec Ideal S4x1024x4x2x256 .f32 :=
  broadcastInDim S4x1024x4x2x256 ![0, 1, 2, 3, 4] bcast_S4x1024x4x2x1_S4x1024x4x2x256_0_1_2_3_4 sc

/-- What arrives of `g`: codes times scales. -/
def wire5 (g : FVec Ideal S4x1024x4x2x256 .f32) : FVec Ideal S4x1024x4x2x256 .f32 :=
  mulf (code5 g (spread5 (scale5 g))) (spread5 (scale5 g))

/-- The reference's result. -/
def out (X : FVec Ideal S4096x4096 .f32) (W : FVec Ideal S4096x2048 .f32) (a b : FVec Ideal S1 .f32) : FVec Ideal S4096x2048 .f32 :=
  shapeCast _ (select (cmpi .eq (iotaInDim S4x1024x4x2x256 32 0) (iotaInDim S4x1024x4x2x256 32 2)) (relu5 X W a b) (wire5 (relu5 X W a b))) shapeCasts_S4x1024x4x2x256_S4096x2048

set_option maxRecDepth 16384 in
theorem relu5_at (X : FVec Ideal S4096x4096 .f32) (W : FVec Ideal S4096x2048 .f32) (a b : FVec Ideal S1 .f32) (s : Fin 4) (r : Fin 1024) (q : Fin 4) (j : Fin 2) (l : Fin 256) :
    relu5 X W a b (ix5 s r q j l)
      = max ((∑ k : Fin 4096, X (ix2 ⟨s.val * 1024 + r.val, by omega⟩ k) * W (ix2 k ⟨q.val * 512 + j.val * 256 + l.val, by omega⟩)) * (a (ix1 0) * b (ix1 0))) 0 := by
  pointwise [relu5]

/-- The largest of each half row. -/
def peak5 (g : FVec Ideal S4x1024x4x2x256 .f32) : FVec Ideal S4x1024x4x2 .f32 :=
  Host.reduce FloatOps.maximumf g (constant S_ .f32 0xFF800000#32) reducesTo_S4x1024x4x2x256_S4x1024x4x2_d4 h_S_

theorem peak5_at (g : FVec Ideal S4x1024x4x2x256 .f32) (s : Fin 4) (r : Fin 1024) (q : Fin 4) (j : Fin 2) :
    peak5 g (ix4 s r q j) = (Finset.univ : Finset (Fin 256)).fold max (Ideal.ofBits .f32 0xFF800000#32) fun l => g (ix5 s r q j l) := by
  have h : S4x1024x4x2x256.Reduces [4] S4x1024x4x2 := by decide
  unfold peak5
  rw [Host.reduce_eq_fold_single FloatOps.maximumf g _ _ h _]
  have hf : (g ∘ h.lift (ix4 s r q j)) = fun l : Fin 256 => g (ix5 s r q j l) := funext fun l => congrArg g (funext fun a => by
    fin_cases a <;> rfl)
  exact congrArg (fun f => Finset.fold max (Ideal.ofBits .f32 0xFF800000#32) f (Finset.univ : Finset (Fin 256))) hf

/-- The scale from the half row's largest. -/
def from5 (p : FVec Ideal S4x1024x4x2 .f32) : FVec Ideal S4x1024x4x2x1 .f32 :=
  Host.divf (maximumf (broadcastInDim S4x1024x4x2x1 ![0, 1, 2, 3] bcast_S4x1024x4x2_S4x1024x4x2x1_0_1_2_3 p) (broadcastInDim S4x1024x4x2x1 ![] bcast_S_S4x1024x4x2x1 (constant S_ .f32 0x0DA24260#32))) (broadcastInDim S4x1024x4x2x1 ![] bcast_S_S4x1024x4x2x1 (constant S_ .f32 0x42FE0000#32))

theorem from5_at (p : FVec Ideal S4x1024x4x2 .f32) (s : Fin 4) (r : Fin 1024) (q : Fin 4) (j : Fin 2) :
    from5 p (ix5 s r q j 0) = Ideal.div (max (p (ix4 s r q j)) (Ideal.ofBits .f32 0x0DA24260#32)) (Ideal.ofBits .f32 0x42FE0000#32) := by
  pointwise [from5]

theorem scale5_at (g : FVec Ideal S4x1024x4x2x256 .f32) (s : Fin 4) (r : Fin 1024) (q : Fin 4) (j : Fin 2) :
    scale5 g (ix5 s r q j 0)
      = Ideal.div (max ((Finset.univ : Finset (Fin 256)).fold max (Ideal.ofBits .f32 0xFF800000#32) fun l => g (ix5 s r q j l)) (Ideal.ofBits .f32 0x0DA24260#32)) (Ideal.ofBits .f32 0x42FE0000#32) := by
  show from5 (peak5 g) _ = _
  rw [from5_at, peak5_at]

theorem spread5_at (sc : FVec Ideal S4x1024x4x2x1 .f32) (s : Fin 4) (r : Fin 1024) (q : Fin 4) (j : Fin 2) (l : Fin 256) :
    spread5 sc (ix5 s r q j l) = sc (ix5 s r q j 0) := by
  pointwise [spread5]

theorem code5_at (g sc : FVec Ideal S4x1024x4x2x256 .f32) (i : S4x1024x4x2x256.Idx) :
    code5 g sc i = Quant.codeR (Ideal.ofBits .f32 0xC2FE0000#32) (Ideal.ofBits .f32 0x42FE0000#32) (Ideal.div (g i) (sc i)) := rfl

/-- What arrives, at an element. -/
theorem wire5_at (g : FVec Ideal S4x1024x4x2x256 .f32) (s : Fin 4) (r : Fin 1024) (q : Fin 4) (j : Fin 2) (l : Fin 256) :
    wire5 g (ix5 s r q j l)
      = Quant.codeR (Ideal.ofBits .f32 0xC2FE0000#32) (Ideal.ofBits .f32 0x42FE0000#32) (Ideal.div (g (ix5 s r q j l)) (scale5 g (ix5 s r q j 0))) * scale5 g (ix5 s r q j 0) := by
  show code5 g (spread5 (scale5 g)) _ * spread5 (scale5 g) _ = _
  rw [code5_at, spread5_at]

set_option maxRecDepth 16384 in
theorem out_at (X : FVec Ideal S4096x4096 .f32) (W : FVec Ideal S4096x2048 .f32) (a b : FVec Ideal S1 .f32) (R : Fin 4096) (C : Fin 2048) :
    out X W a b (ix2 R C)
      = Scalar.select (IntOp.cmpi .eq (BitVec.ofNat 32 (R.val / 1024)) (BitVec.ofNat 32 (C.val / 512)))
          (relu5 X W a b (ix5 ⟨R.val / 1024, by omega⟩ ⟨R.val % 1024, by omega⟩ ⟨C.val / 512, by omega⟩ ⟨C.val / 256 % 2, by omega⟩ ⟨C.val % 256, by omega⟩))
          (wire5 (relu5 X W a b) (ix5 ⟨R.val / 1024, by omega⟩ ⟨R.val % 1024, by omega⟩ ⟨C.val / 512, by omega⟩ ⟨C.val / 256 % 2, by omega⟩ ⟨C.val % 256, by omega⟩)) := by
  pointwise [out]

/-- The select's condition: the block stays home when the sender's and the receiver's numbers agree. -/
theorem home_bit (s q : Fin 4) : IntOp.cmpi .eq (BitVec.ofNat 32 s.val) (BitVec.ofNat 32 q.val) = if s = q then 1#1 else 0#1 := by
  revert s q; decide

/-- The reference's result at sender `s`'s row `r` and receiver `q`'s column `l` of half `j`. -/
theorem out_tile (X : FVec Ideal S4096x4096 .f32) (W : FVec Ideal S4096x2048 .f32) (a b : FVec Ideal S1 .f32) (s : Fin 4) (r : Fin 1024) (q : Fin 4) (j : Fin 2) (l : Fin 256) :
    out X W a b (ix2 ⟨s.val * 1024 + r.val, by omega⟩ ⟨q.val * 512 + j.val * 256 + l.val, by omega⟩)
      = if s = q then relu5 X W a b (ix5 s r q j l) else wire5 (relu5 X W a b) (ix5 s r q j l) := by
  have e1 : (⟨(s.val * 1024 + r.val) / 1024, by omega⟩ : Fin 4) = s := Fin.ext (by dsimp only; omega)
  have e2 : (⟨(s.val * 1024 + r.val) % 1024, by omega⟩ : Fin 1024) = r := Fin.ext (by dsimp only; omega)
  have e3 : (⟨(q.val * 512 + j.val * 256 + l.val) / 512, by omega⟩ : Fin 4) = q := Fin.ext (by dsimp only; omega)
  have e4 : (⟨(q.val * 512 + j.val * 256 + l.val) / 256 % 2, by omega⟩ : Fin 2) = j := Fin.ext (by dsimp only; omega)
  have e5 : (⟨(q.val * 512 + j.val * 256 + l.val) % 256, by omega⟩ : Fin 256) = l := Fin.ext (by dsimp only; omega)
  rw [out_at]
  simp only [e1, e2, e3, e4, e5]
  rw [show (s.val * 1024 + r.val) / 1024 = s.val by omega, show (q.val * 512 + j.val * 256 + l.val) / 512 = q.val by omega, home_bit]
  by_cases h : s = q
  · rw [if_pos h, if_pos h]; rfl
  · rw [if_neg h, if_neg h]; rfl

/-- The reference's run ends with `out` of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
        = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run (F := Ideal) m ρ

end Cert.ReferenceIdeal.At

end
-- ==== Proof.Value.lean ====
/- The equation: each device's result is its block of columns of the reference's result. -/
module

public import proofs.«01_k».proof.Defs
public import proofs.«01_k».proof.Proof.Launch
public import proofs.«01_k».proof.Proof.BlockAt
public import proofs.«01_k».proof.Proof.RefAt

@[expose] public section

noncomputable section

namespace Cert.Value

open Cert.KernelIdeal Cert.KernelIdeal.Gen Cert.KernelIdeal.A2A Idealize.ShloMosaic Idealize.ShloMosaic.TcCoe Idealize.SL.Sem

variable (m : (ℓ : Loc nD τ sig) → Buf (Elt Ideal) ℓ)
  (X : (⟨2, ![4096, 4096]⟩ : Shape).Idx → EReal) (W : (⟨2, ![4096, 2048]⟩ : Shape).Idx → EReal) (a b : (⟨1, ![1]⟩ : Shape).Idx → EReal)

/-- The kernel's devices hold the reference's arrays: a block of rows of the first, the others whole. -/
structure Holds : Prop where
  x : ∀ c : Dev nD, m ((c.tc : Thread nD τ).loc main_arg0) = Layout.block ⟨2, ![1024, 4096]⟩ ⟨2, ![4096, 4096]⟩ 0 4 c X
  w : ∀ c : Dev nD, m ((c.tc : Thread nD τ).loc main_arg1) = W
  a : ∀ c : Dev nD, m ((c.tc : Thread nD τ).loc main_arg2) = a
  b : ∀ c : Dev nD, m ((c.tc : Thread nD τ).loc main_arg3) = b

variable {m X W a b}

theorem vX_at (H : Holds m X W a b) (p : Dev nD) (r : Fin 1024) (k : Fin 4096) :
    vX m p (ix2 r k) = X (ix2 ⟨p.val * 1024 + r.val, by have := p.isLt; simp only [nD] at this; omega⟩ k) := by
  unfold vX
  rw [H.x p]
  refine congrArg X (funext fun e => ?_)
  fin_cases e <;> exact Fin.ext rfl

theorem unit_at (z : S4096x256.Idx → EReal) (h : S4096x256.ShapeCasts S1x4096x256) (k : Fin 4096) (l : Fin 256) :
    shapeCast S1x4096x256 z h (ix3 0 k l) = z (ix2 k l) := by
  pointwise

theorem vW_at (H : Holds m X W a b) (p q : Dev nD) (j : Fin 2) (k : Fin 4096) (l : Fin 256) :
    vW m p q j (ix3 0 k l) = W (ix2 k ⟨q.val * 512 + j.val * 256 + l.val, by have := q.isLt; simp only [nD] at this; omega⟩) := by
  unfold vW
  rw [unit_at, H.w p]
  refine congrArg W (funext fun e => ?_)
  fin_cases e
  · exact Fin.ext (show 0 + 1 * k.val = k.val by omega)
  · exact Fin.ext (show (512 * q.val + 256 * j.val) + 1 * l.val = q.val * 512 + j.val * 256 + l.val by omega)

theorem one_idx (i i' : (⟨1, ![1]⟩ : Shape).Idx) : i = i' := funext fun e => by
  fin_cases e; exact Subsingleton.elim (α := Fin 1) _ _

theorem vA_eq (H : Holds m X W a b) (p : Dev nD) : vA m p = a (ix1 0) := by
  unfold vA stg0
  rw [H.a p]
  exact congrArg a (one_idx _ _)

theorem vB_eq (H : Holds m X W a b) (p : Dev nD) : vB m p = b (ix1 0) := by
  unfold vB stg1
  rw [H.b p]
  exact congrArg b (one_idx _ _)

/-- An element before it is sent: the kernel's sum is the reference's. -/
theorem before_eq (H : Holds m X W a b) (p q : Dev nD) (j : Fin 2) (r : Fin 1024) (l : Fin 256) :
    max ((∑ k : Fin 4096, vX m p (ix2 r k) * vW m p q j (ix3 0 k l)) * (vA m p * vB m p)) 0
      = Cert.ReferenceIdeal.At.relu5 X W a b (ix5 p r q j l) := by
  rw [Cert.ReferenceIdeal.At.relu5_at, vA_eq H, vB_eq H]
  simp only [vX_at H, vW_at H]

theorem tO_at (H : Holds m X W a b) (p q : Dev nD) (j : Fin 2) (r : Fin 1024) (l : Fin 256) :
    tO m p q j (ix3 0 r l) = Cert.ReferenceIdeal.At.relu5 X W a b (ix5 p r q j l) := by
  unfold tO
  rw [cO_at, before_eq H]

/-- An element that was sent, as it arrives. -/
theorem tQ_at (H : Holds m X W a b) (p q : Dev nD) (j : Fin 2) (r : Fin 1024) (l : Fin 256) :
    dq (tS m p q j) (tQ m p q j) (ix3 0 r l) = Cert.ReferenceIdeal.At.wire5 (Cert.ReferenceIdeal.At.relu5 X W a b) (ix5 p r q j l) := by
  unfold tS tQ
  rw [dq_at _ _ _ _ (fun l => Cert.ReferenceIdeal.At.relu5 X W a b (ix5 p r q j l)) r l (fun l => (before_eq H p q j r l).symm),
    Cert.ReferenceIdeal.At.wire5_at, Cert.ReferenceIdeal.At.scale5_at, Quant.bits_127, Quant.bits_neg127]
  rw [Quant.sent_eq (y := Cert.ReferenceIdeal.At.relu5 X W a b (ix5 p r q j l))
    (M := (Finset.univ : Finset (Fin 256)).fold max (Ideal.ofBits .f32 0xFF800000#32) fun l => Cert.ReferenceIdeal.At.relu5 X W a b (ix5 p r q j l))
    Quant.bits_small ?_ ?_, Quant.scale_eq]
  · rw [Cert.ReferenceIdeal.At.relu5_at]; exact le_max_right _ _
  · exact (Finset.le_fold_max _).2 (Or.inr ⟨l, Finset.mem_univ _, le_rfl⟩)

/-- The block of `p`'s rows that device `c` ends with. -/
theorem outV_at (H : Holds m X W a b) (c p : Dev nD) (r : Fin 1024) (t : Fin 512) :
    outV m c p (ix2 r t)
      = Cert.ReferenceIdeal.At.out X W a b (ix2 ⟨p.val * 1024 + r.val, by have := p.isLt; simp only [nD] at this; omega⟩ ⟨c.val * 512 + t.val, by have := c.isLt; simp only [nD] at this; omega⟩) := by
  have key : ∀ (j : Fin 2) (l : Fin 256) (h : c.val * 512 + j.val * 256 + l.val = c.val * 512 + t.val) (z : EReal),
      z = (if p = c then tO m c c j (ix3 0 r l) else dq (tS m p c j) (tQ m p c j) (ix3 0 r l)) →
      z = Cert.ReferenceIdeal.At.out X W a b (ix2 ⟨p.val * 1024 + r.val, by have := p.isLt; simp only [nD] at this; omega⟩ ⟨c.val * 512 + t.val, by have := c.isLt; simp only [nD] at this; omega⟩) := by
    intro j l h z hz
    have e := Cert.ReferenceIdeal.At.out_tile X W a b p r c j l
    rw [show (⟨c.val * 512 + j.val * 256 + l.val, by have := c.isLt; simp only [nD] at this; omega⟩ : Fin 2048) = ⟨c.val * 512 + t.val, by have := c.isLt; simp only [nD] at this; omega⟩ from Fin.ext h] at e
    rw [e, hz]
    by_cases hp : p = c
    · subst hp; rw [if_pos rfl, if_pos rfl, tO_at H]
    · rw [if_neg hp, if_neg hp, tQ_at H]
  by_cases ht : t.val < 256
  · refine key 0 ⟨t.val, ht⟩ (by show c.val * 512 + 0 * 256 + t.val = c.val * 512 + t.val; omega) _ ?_
    unfold outV
    split
    · next hp => unfold ownV both; rw [dif_pos (show ((ix2 r t : S1024x512.Idx) 1).val < 256 from ht)]; rfl
    · unfold both; rw [dif_pos (show ((ix2 r t : S1024x512.Idx) 1).val < 256 from ht)]; rfl
  · refine key 1 ⟨t.val - 256, by omega⟩ (by show _ + 1 * 256 + (t.val - 256) = _; omega) _ ?_
    unfold outV
    split
    · next hp => unfold ownV both; rw [dif_neg (show ¬ ((ix2 r t : S1024x512.Idx) 1).val < 256 from ht)]; rfl
    · unfold both; rw [dif_neg (show ¬ ((ix2 r t : S1024x512.Idx) 1).val < 256 from ht)]; rfl

/-- Contents whose rows are these blocks are the device's block of columns. -/
theorem joined (H : Holds m X W a b) (c : Dev nD) (f : S4096x512.Idx → EReal)
    (h : ∀ p : Dev nD, (oR p).view.read (Elt Ideal) f = outV m c p) :
    f = Layout.block ⟨2, ![4096, 512]⟩ ⟨2, ![4096, 2048]⟩ 1 4 c (Cert.ReferenceIdeal.At.out X W a b) := by
  funext i
  have hi0 : (i 0).val < 4096 := (i 0).isLt
  have hi1 : (i 1).val < 512 := (i 1).isLt
  have e := congrFun (h ⟨(i 0).val / 1024, by simp only [nD]; omega⟩) (ix2 ⟨(i 0).val % 1024, by omega⟩ ⟨(i 1).val, hi1⟩)
  rw [outV_at H] at e
  refine Eq.trans (congrArg f (funext fun d => ?_)) (e.trans (congrArg _ (funext fun d => ?_)))
  · fin_cases d
    · exact Fin.ext (show (i 0).val = 1024 * ((i 0).val / 1024) + 1 * ((i 0).val % 1024) by omega)
    · exact Fin.ext (show (i 1).val = 0 + 1 * (i 1).val by omega)
  · fin_cases d
    · exact Fin.ext (show (i 0).val / 1024 * 1024 + (i 0).val % 1024 = (i 0).val by omega)
    · exact Fin.ext rfl

end Cert.Value

namespace Cert.Proof

open Idealize.ShloMosaic Idealize.ShloMosaic.TcCoe Idealize.SL.Sem

theorem algebraic : Cert.algebraic_KernelIdeal_ReferenceIdeal := fun m g m' g' _ h => by
  have H : Cert.Value.Holds m _ _ _ _ := ⟨fun c => (h c).1, fun c => (h c).2.1, fun c => (h c).2.2.1, fun c => (h c).2.2.2⟩
  refine ⟨_, (θ_run (Cert.KernelIdeal.defs (F := Ideal)) _ _).mono (fun r hr c => ⟨Cert.Value.joined H c _ (hr.2.2 c), hr.1 c⟩)
      (Cert.KernelIdeal.A2A.run_main (F := Ideal) m g),
    (θ_run (Cert.ReferenceIdeal.defs (F := Ideal)) _ _).mono (fun r hr => hr 0) (Cert.ReferenceIdeal.At.run m' g')⟩

end Cert.Proof

end
-- ==== Proof.lean ====
/- The frames of the kernel, of its idealization and of the idealized reference, the statement of the named constant, and
   the equation of the kernel with the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts, frame_p, frame_pi, frame_ri, named, algebraic⟩

end Cert.Proof

end
